-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v1_7)) (v2 : (c : Dev Cert.KernelIdeal.nD) → Buf (Elt Ideal) ((c.tc : Thread Cert.KernelIdeal.nD Cert.KernelIdeal.τ).loc Cert.KernelIdeal.main_v1_8)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_v5)) (v6 : (c : Dev Cert.KernelIdeal.nD) → Buf (Elt Ideal) ((c.tc : Thread Cert.KernelIdeal.nD Cert.KernelIdeal.τ).loc Cert.KernelIdeal.main_v1_3)) (v7 : (c : Dev Cert.KernelIdeal.nD) → Buf (Elt Ideal) ((c.tc : Thread Cert.KernelIdeal.nD Cert.KernelIdeal.τ).loc Cert.KernelIdeal.main_v1_4)) (v8 : (c : Dev Cert.KernelIdeal.nD) → Buf (Elt Ideal) ((c.tc : Thread Cert.KernelIdeal.nD Cert.KernelIdeal.τ).loc Cert.KernelIdeal.main_v1_5)) (v9 : (c : Dev Cert.KernelIdeal.nD) → Buf (Elt Ideal) ((c.tc : Thread Cert.KernelIdeal.nD Cert.KernelIdeal.τ).loc Cert.KernelIdeal.main_v1_6)) (v10 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v1_7) = v1 c
          ∧ r.2.mem ((c.tc : Thread Cert.KernelIdeal.nD Cert.KernelIdeal.τ).loc Cert.KernelIdeal.main_v1_8) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_v5) = v5 c
          ∧ r.2.mem ((c.tc : Thread Cert.KernelIdeal.nD Cert.KernelIdeal.τ).loc Cert.KernelIdeal.main_v1_3) = v6 c
          ∧ r.2.mem ((c.tc : Thread Cert.KernelIdeal.nD Cert.KernelIdeal.τ).loc Cert.KernelIdeal.main_v1_4) = v7 c
          ∧ r.2.mem ((c.tc : Thread Cert.KernelIdeal.nD Cert.KernelIdeal.τ).loc Cert.KernelIdeal.main_v1_5) = v8 c
          ∧ r.2.mem ((c.tc : Thread Cert.KernelIdeal.nD Cert.KernelIdeal.τ).loc Cert.KernelIdeal.main_v1_6) = v9 c
          ∧ r.2.mem ((c.tc : Thread Cert.KernelIdeal.nD Cert.KernelIdeal.τ).loc Cert.KernelIdeal.main_v2) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_v15) = v4 c
          ∧ r.2.mem ((c.tc : Thread Cert.ReferenceIdeal.nD Cert.ReferenceIdeal.τ).loc Cert.ReferenceIdeal.main_v47) = v5 c
          ∧ r.2.mem ((c.tc : Thread Cert.ReferenceIdeal.nD Cert.ReferenceIdeal.τ).loc Cert.ReferenceIdeal.main_v16) = v6 c
          ∧ r.2.mem ((c.tc : Thread Cert.ReferenceIdeal.nD Cert.ReferenceIdeal.τ).loc Cert.ReferenceIdeal.main_v17) = v7 c
          ∧ r.2.mem ((c.tc : Thread Cert.ReferenceIdeal.nD Cert.ReferenceIdeal.τ).loc Cert.ReferenceIdeal.main_v18) = v8 c
          ∧ r.2.mem ((c.tc : Thread Cert.ReferenceIdeal.nD Cert.ReferenceIdeal.τ).loc Cert.ReferenceIdeal.main_v19) = v9 c
          ∧ r.2.mem ((c.tc : Thread Cert.ReferenceIdeal.nD Cert.ReferenceIdeal.τ).loc Cert.ReferenceIdeal.main_c) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x5 : Shape := ⟨2, ![512, 5]⟩
abbrev S512 : Shape := ⟨1, ![512]⟩
abbrev S1x3 : Shape := ⟨2, ![1, 3]⟩
abbrev S2560 : Shape := ⟨1, ![2560]⟩
abbrev S1308160 : Shape := ⟨1, ![1308160]⟩
abbrev S261632 : Shape := ⟨1, ![261632]⟩
abbrev S2576 : Shape := ⟨1, ![2576]⟩
abbrev S528 : Shape := ⟨1, ![528]⟩
abbrev S20448 : Shape := ⟨1, ![20448]⟩
abbrev S4096 : Shape := ⟨1, ![4096]⟩
abbrev S_ : Shape := ⟨0, ![]⟩
abbrev S16 : Shape := ⟨1, ![16]⟩
abbrev S20440 : Shape := ⟨1, ![20440]⟩
abbrev S4088 : Shape := ⟨1, ![4088]⟩
abbrev S1 : Shape := ⟨1, ![1]⟩
abbrev S261632x5 : Shape := ⟨2, ![261632, 5]⟩

abbrev nBuf : Table → Nat
  | .hbm => 19
  | .local .scVector .vmem => 12
  | _ => 0

abbrev bufTy : (tb : Table) → Fin (nBuf tb) → BufTy
  | .hbm, ⟨0, _⟩ => ⟨S512x5, .f32⟩
  | .hbm, ⟨1, _⟩ => ⟨S512, .i32⟩
  | .hbm, ⟨2, _⟩ => ⟨S512, .f32⟩
  | .hbm, ⟨3, _⟩ => ⟨S1x3, .f32⟩
  | .hbm, ⟨4, _⟩ => ⟨S2560, .f32⟩
  | .hbm, ⟨5, _⟩ => ⟨S1308160, .f32⟩
  | .hbm, ⟨6, _⟩ => ⟨S1308160, .f32⟩
  | .hbm, ⟨7, _⟩ => ⟨S1308160, .f32⟩
  | .hbm, ⟨8, _⟩ => ⟨S261632, .i32⟩
  | .hbm, ⟨9, _⟩ => ⟨S261632, .i32⟩
  | .hbm, ⟨10, _⟩ => ⟨S261632, .f32⟩
  | .hbm, ⟨11, _⟩ => ⟨S261632, .f32⟩
  | .hbm, ⟨12, _⟩ => ⟨S261632, .i32⟩
  | .hbm, ⟨13, _⟩ => ⟨S261632, .i32⟩
  | .hbm, ⟨14, _⟩ => ⟨S_, .i32⟩
  | .hbm, ⟨15, _⟩ => ⟨S1, .i32⟩
  | .hbm, ⟨16, _⟩ => ⟨S261632x5, .f32⟩
  | .hbm, ⟨17, _⟩ => ⟨S261632x5, .f32⟩
  | .hbm, ⟨18, _⟩ => ⟨S261632x5, .f32⟩
  | .local .scVector .vmem, ⟨0, _⟩ => ⟨S2576, .f32⟩
  | .local .scVector .vmem, ⟨1, _⟩ => ⟨S528, .i32⟩
  | .local .scVector .vmem, ⟨2, _⟩ => ⟨S528, .f32⟩
  | .local .scVector .vmem, ⟨3, _⟩ => ⟨S20448, .f32⟩
  | .local .scVector .vmem, ⟨4, _⟩ => ⟨S20448, .f32⟩
  | .local .scVector .vmem, ⟨5, _⟩ => ⟨S20448, .f32⟩
  | .local .scVector .vmem, ⟨6, _⟩ => ⟨S4096, .i32⟩
  | .local .scVector .vmem, ⟨7, _⟩ => ⟨S4096, .i32⟩
  | .local .scVector .vmem, ⟨8, _⟩ => ⟨S4096, .f32⟩
  | .local .scVector .vmem, ⟨9, _⟩ => ⟨S4096, .f32⟩
  | .local .scVector .vmem, ⟨10, _⟩ => ⟨S4096, .i32⟩
  | .local .scVector .vmem, ⟨11, _⟩ => ⟨S4096, .i32⟩
  | _, _ => ⟨S512x5, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v1_7 : Ref sig .tc := ⟨.hbm, 12, rfl⟩
abbrev main_v1_8 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v0_scv : Ref sig .scVector := ⟨.hbm, 4, rfl⟩
abbrev main_arg1_scv : Ref sig .scVector := ⟨.hbm, 1, rfl⟩
abbrev main_arg2_scv : Ref sig .scVector := ⟨.hbm, 2, rfl⟩
abbrev main_v1_0_scv : Ref sig .scVector := ⟨.hbm, 5, rfl⟩
abbrev main_v1_1_scv : Ref sig .scVector := ⟨.hbm, 6, rfl⟩
abbrev main_v1_2_scv : Ref sig .scVector := ⟨.hbm, 7, rfl⟩
abbrev main_v1_3_scv : Ref sig .scVector := ⟨.hbm, 8, rfl⟩
abbrev main_v1_4_scv : Ref sig .scVector := ⟨.hbm, 9, rfl⟩
abbrev main_v1_5_scv : Ref sig .scVector := ⟨.hbm, 10, rfl⟩
abbrev main_v1_6_scv : Ref sig .scVector := ⟨.hbm, 11, rfl⟩
abbrev main_v1_7_scv : Ref sig .scVector := ⟨.hbm, 12, rfl⟩
abbrev main_v1_8_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_46 : BitVec 32 := 0#32
  let c8_i32 : BitVec 32 := 8#32
  let v130 : BitVec 32 := Scalar.addi c0_i32_46 c8_i32
  let c1_i32_47 : BitVec 32 := 1#32
  ⟨c0_i32_46, v130, c1_i32_47⟩

def k0_chk1 (v156 : IVec S16 32) : Prop :=
  (∀ a x, ((![v156] : Fin 1 → IVec S16 32) a x).toNat < S2576.size a)
theorem k0_idx1_inb : ∀ (v156 : IVec S16 32) (k0_hw1 : k0_chk1 v156), ∀ a x, ((![v156] : Fin 1 → IVec S16 32) a x).toNat < S2576.size a := fun v156 k0_hw1 => k0_hw1

def k0_chk2 (v158 : IVec S16 32) : Prop :=
  (∀ a x, ((![v158] : Fin 1 → IVec S16 32) a x).toNat < S2576.size a)
theorem k0_idx2_inb : ∀ (v158 : IVec S16 32) (k0_hw2 : k0_chk2 v158), ∀ a x, ((![v158] : Fin 1 → IVec S16 32) a x).toNat < S2576.size a := fun v158 k0_hw2 => k0_hw2

def k0_chk3 (v160 : IVec S16 32) : Prop :=
  (∀ a x, ((![v160] : Fin 1 → IVec S16 32) a x).toNat < S2576.size a)
theorem k0_idx3_inb : ∀ (v160 : IVec S16 32) (k0_hw3 : k0_chk3 v160), ∀ a x, ((![v160] : Fin 1 → IVec S16 32) a x).toNat < S2576.size a := fun v160 k0_hw3 => k0_hw3

def k0_chk4 (v162 : IVec S16 32) : Prop :=
  (∀ a x, ((![v162] : Fin 1 → IVec S16 32) a x).toNat < S2576.size a)
theorem k0_idx4_inb : ∀ (v162 : IVec S16 32) (k0_hw4 : k0_chk4 v162), ∀ a x, ((![v162] : Fin 1 → IVec S16 32) a x).toNat < S2576.size a := fun v162 k0_hw4 => k0_hw4

def k0_chk5 (v164 : IVec S16 32) : Prop :=
  (∀ a x, ((![v164] : Fin 1 → IVec S16 32) a x).toNat < S2576.size a)
theorem k0_idx5_inb : ∀ (v164 : IVec S16 32) (k0_hw5 : k0_chk5 v164), ∀ a x, ((![v164] : Fin 1 → IVec S16 32) a x).toNat < S2576.size a := fun v164 k0_hw5 => k0_hw5

def k0_chk6 (v155 : IVec S16 32) : Prop :=
  (∀ a x, ((![v155] : Fin 1 → IVec S16 32) a x).toNat < S528.size a) ∧
  (∀ a x, ((![v155] : Fin 1 → IVec S16 32) a x).toNat < S528.size a)
theorem k0_idx6_inb : ∀ (v155 : IVec S16 32) (k0_hw6 : k0_chk6 v155), ∀ a x, ((![v155] : Fin 1 → IVec S16 32) a x).toNat < S528.size a := fun v155 k0_hw6 => k0_hw6.1
theorem k0_idx7_inb : ∀ (v155 : IVec S16 32) (k0_hw6 : k0_chk6 v155), ∀ a x, ((![v155] : Fin 1 → IVec S16 32) a x).toNat < S528.size a := fun v155 k0_hw6 => k0_hw6.2
@[reducible] def k0_t2_loop : Scf.Loop 32 :=
  let c0_i32_68 : BitVec 32 := 0#32
  let c32_i32_69 : BitVec 32 := 32#32
  let v170 : BitVec 32 := Scalar.addi c0_i32_68 c32_i32_69
  let c1_i32_70 : BitVec 32 := 1#32
  ⟨c0_i32_68, v170, c1_i32_70⟩

def k0_chk7 (v182 : IVec S16 32) : Prop :=
  (∀ a x, ((![v182] : Fin 1 → IVec S16 32) a x).toNat < S2576.size a)
theorem k0_idx8_inb : ∀ (v182 : IVec S16 32) (k0_hw7 : k0_chk7 v182), ∀ a x, ((![v182] : Fin 1 → IVec S16 32) a x).toNat < S2576.size a := fun v182 k0_hw7 => k0_hw7
def k0_off1 (k0_t1 : Fin k0_t1_loop.trips) (k0_t2 : Fin k0_t2_loop.trips) : Fin 1 → Nat :=
  let c0_i32_46 : BitVec 32 := 0#32
  let c1_i32_47 : BitVec 32 := 1#32
  let arg26 : BitVec 32 := Scf.iv c0_i32_46 c1_i32_47 k0_t1
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t2
  let c80_i32 : BitVec 32 := 80#32
  let v174 : BitVec 32 := Scalar.muli arg28 c80_i32
  let v184 : BitVec 32 := Scalar.addi v168 v174
  let c0_i32_81 : BitVec 32 := 0#32
  let v185 : BitVec 32 := Scalar.addi v184 c0_i32_81
  let v186 : Index := Scalar.indexCast v185
  ![v186.toNat]

def k0_chk8 (v203 : IVec S16 32) : Prop :=
  (∀ a x, ((![v203] : Fin 1 → IVec S16 32) a x).toNat < S2576.size a)
theorem k0_idx9_inb : ∀ (v203 : IVec S16 32) (k0_hw8 : k0_chk8 v203), ∀ a x, ((![v203] : Fin 1 → IVec S16 32) a x).toNat < S2576.size a := fun v203 k0_hw8 => k0_hw8
def k0_off2 (k0_t1 : Fin k0_t1_loop.trips) (k0_t2 : Fin k0_t2_loop.trips) : Fin 1 → Nat :=
  let c0_i32_46 : BitVec 32 := 0#32
  let c1_i32_47 : BitVec 32 := 1#32
  let arg26 : BitVec 32 := Scf.iv c0_i32_46 c1_i32_47 k0_t1
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t2
  let c80_i32 : BitVec 32 := 80#32
  let v174 : BitVec 32 := Scalar.muli arg28 c80_i32
  let v205 : BitVec 32 := Scalar.addi v168 v174
  let c16_i32_85 : BitVec 32 := 16#32
  let v206 : BitVec 32 := Scalar.addi v205 c16_i32_85
  let v207 : Index := Scalar.indexCast v206
  ![v207.toNat]

def k0_chk9 (v224 : IVec S16 32) : Prop :=
  (∀ a x, ((![v224] : Fin 1 → IVec S16 32) a x).toNat < S2576.size a)
theorem k0_idx10_inb : ∀ (v224 : IVec S16 32) (k0_hw9 : k0_chk9 v224), ∀ a x, ((![v224] : Fin 1 → IVec S16 32) a x).toNat < S2576.size a := fun v224 k0_hw9 => k0_hw9
def k0_off3 (k0_t1 : Fin k0_t1_loop.trips) (k0_t2 : Fin k0_t2_loop.trips) : Fin 1 → Nat :=
  let c0_i32_46 : BitVec 32 := 0#32
  let c1_i32_47 : BitVec 32 := 1#32
  let arg26 : BitVec 32 := Scf.iv c0_i32_46 c1_i32_47 k0_t1
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t2
  let c80_i32 : BitVec 32 := 80#32
  let v174 : BitVec 32 := Scalar.muli arg28 c80_i32
  let v226 : BitVec 32 := Scalar.addi v168 v174
  let c32_i32_89 : BitVec 32 := 32#32
  let v227 : BitVec 32 := Scalar.addi v226 c32_i32_89
  let v228 : Index := Scalar.indexCast v227
  ![v228.toNat]

def k0_chk10 (v245 : IVec S16 32) : Prop :=
  (∀ a x, ((![v245] : Fin 1 → IVec S16 32) a x).toNat < S2576.size a)
theorem k0_idx11_inb : ∀ (v245 : IVec S16 32) (k0_hw10 : k0_chk10 v245), ∀ a x, ((![v245] : Fin 1 → IVec S16 32) a x).toNat < S2576.size a := fun v245 k0_hw10 => k0_hw10
def k0_off4 (k0_t1 : Fin k0_t1_loop.trips) (k0_t2 : Fin k0_t2_loop.trips) : Fin 1 → Nat :=
  let c0_i32_46 : BitVec 32 := 0#32
  let c1_i32_47 : BitVec 32 := 1#32
  let arg26 : BitVec 32 := Scf.iv c0_i32_46 c1_i32_47 k0_t1
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t2
  let c80_i32 : BitVec 32 := 80#32
  let v174 : BitVec 32 := Scalar.muli arg28 c80_i32
  let v247 : BitVec 32 := Scalar.addi v168 v174
  let c48_i32_93 : BitVec 32 := 48#32
  let v248 : BitVec 32 := Scalar.addi v247 c48_i32_93
  let v249 : Index := Scalar.indexCast v248
  ![v249.toNat]

def k0_chk11 (v266 : IVec S16 32) : Prop :=
  (∀ a x, ((![v266] : Fin 1 → IVec S16 32) a x).toNat < S2576.size a)
theorem k0_idx12_inb : ∀ (v266 : IVec S16 32) (k0_hw11 : k0_chk11 v266), ∀ a x, ((![v266] : Fin 1 → IVec S16 32) a x).toNat < S2576.size a := fun v266 k0_hw11 => k0_hw11
def k0_off5 (k0_t1 : Fin k0_t1_loop.trips) (k0_t2 : Fin k0_t2_loop.trips) : Fin 1 → Nat :=
  let c0_i32_46 : BitVec 32 := 0#32
  let c1_i32_47 : BitVec 32 := 1#32
  let arg26 : BitVec 32 := Scf.iv c0_i32_46 c1_i32_47 k0_t1
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t2
  let c80_i32 : BitVec 32 := 80#32
  let v174 : BitVec 32 := Scalar.muli arg28 c80_i32
  let v268 : BitVec 32 := Scalar.addi v168 v174
  let c64_i32_97 : BitVec 32 := 64#32
  let v269 : BitVec 32 := Scalar.addi v268 c64_i32_97
  let v270 : Index := Scalar.indexCast v269
  ![v270.toNat]
@[reducible] def k0_t3_loop : Scf.Loop 32 :=
  let c0_i32_73 : BitVec 32 := 0#32
  let c32_i32_74 : BitVec 32 := 32#32
  let v172 : BitVec 32 := Scalar.addi c0_i32_73 c32_i32_74
  let c1_i32_75 : BitVec 32 := 1#32
  ⟨c0_i32_73, v172, c1_i32_75⟩
def k0_off6 (k0_t1 : Fin k0_t1_loop.trips) (k0_t3 : Fin k0_t3_loop.trips) : Fin 1 → Nat :=
  let c0_i32_46 : BitVec 32 := 0#32
  let c1_i32_47 : BitVec 32 := 1#32
  let arg26 : BitVec 32 := Scf.iv c0_i32_46 c1_i32_47 k0_t1
  let c511_i32 : BitVec 32 := 511#32
  let v169 : BitVec 32 := Scalar.muli arg26 c511_i32
  let c0_i32_73 : BitVec 32 := 0#32
  let c1_i32_75 : BitVec 32 := 1#32
  let arg28 : BitVec 32 := Scf.iv c0_i32_73 c1_i32_75 k0_t3
  let c16_i32_81 : BitVec 32 := 16#32
  let v182 : BitVec 32 := Scalar.muli arg28 c16_i32_81
  let v183 : BitVec 32 := Scalar.addi v169 v182
  let v185 : Index := Scalar.indexCast v183
  ![v185.toNat]

def k0_chk12 (v181 : IVec S16 32) : Prop :=
  (∀ a x, ((![v181] : Fin 1 → IVec S16 32) a x).toNat < S528.size a) ∧
  (∀ a x, ((![v181] : Fin 1 → IVec S16 32) a x).toNat < S528.size a)
theorem k0_idx13_inb : ∀ (v181 : IVec S16 32) (k0_hw12 : k0_chk12 v181), ∀ a x, ((![v181] : Fin 1 → IVec S16 32) a x).toNat < S528.size a := fun v181 k0_hw12 => k0_hw12.1
theorem k0_idx14_inb : ∀ (v181 : IVec S16 32) (k0_hw12 : k0_chk12 v181), ∀ a x, ((![v181] : Fin 1 → IVec S16 32) a x).toNat < S528.size a := fun v181 k0_hw12 => k0_hw12.2
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_49 : BitVec 32 := 2#32
  let v132 : BitVec 32 := Scalar.muli v1 c2_i32_49
  let c0_i32_50 : BitVec 32 := 0#32
  let v133 : BitVec 32 := Scalar.addi v132 c0_i32_50
  let c20440_i32 : BitVec 32 := 20440#32
  let v134 : BitVec 32 := Scalar.muli v133 c20440_i32
  v134
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_51 : BitVec 32 := 2#32
  let v136 : BitVec 32 := Scalar.muli v1 c2_i32_51
  let c0_i32_52 : BitVec 32 := 0#32
  let v137 : BitVec 32 := Scalar.addi v136 c0_i32_52
  let c4088_i32 : BitVec 32 := 4088#32
  let v138 : BitVec 32 := Scalar.muli v137 c4088_i32
  v138
def k0_off7 (i : grid0.Coords) (c0_i32_50 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_49 : BitVec 32 := 2#32
  let v132 : BitVec 32 := Scalar.muli v1 c2_i32_49
  let v133 : BitVec 32 := Scalar.addi v132 c0_i32_50
  let c20440_i32 : BitVec 32 := 20440#32
  let v134 : BitVec 32 := Scalar.muli v133 c20440_i32
  let v135 : BitVec 32 := v134
  ![v135.toNat]
def k0_off8 (i : grid0.Coords) (c0_i32_52 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_51 : BitVec 32 := 2#32
  let v136 : BitVec 32 := Scalar.muli v1 c2_i32_51
  let v137 : BitVec 32 := Scalar.addi v136 c0_i32_52
  let c4088_i32 : BitVec 32 := 4088#32
  let v138 : BitVec 32 := Scalar.muli v137 c4088_i32
  let v139 : BitVec 32 := v138
  ![v139.toNat]
@[reducible] def k0_t4_loop : Scf.Loop 32 :=
  let c0_i32_56 : BitVec 32 := 0#32
  let c8_i32_57 : BitVec 32 := 8#32
  let v142 : BitVec 32 := Scalar.addi c0_i32_56 c8_i32_57
  let c1_i32_58 : BitVec 32 := 1#32
  ⟨c0_i32_56, v142, c1_i32_58⟩

def k0_chk13 (v156 : IVec S16 32) : Prop :=
  (∀ a x, ((![v156] : Fin 1 → IVec S16 32) a x).toNat < S2576.size a)
theorem k0_idx15_inb : ∀ (v156 : IVec S16 32) (k0_hw13 : k0_chk13 v156), ∀ a x, ((![v156] : Fin 1 → IVec S16 32) a x).toNat < S2576.size a := fun v156 k0_hw13 => k0_hw13

def k0_chk14 (v158 : IVec S16 32) : Prop :=
  (∀ a x, ((![v158] : Fin 1 → IVec S16 32) a x).toNat < S2576.size a)
theorem k0_idx16_inb : ∀ (v158 : IVec S16 32) (k0_hw14 : k0_chk14 v158), ∀ a x, ((![v158] : Fin 1 → IVec S16 32) a x).toNat < S2576.size a := fun v158 k0_hw14 => k0_hw14

def k0_chk15 (v160 : IVec S16 32) : Prop :=
  (∀ a x, ((![v160] : Fin 1 → IVec S16 32) a x).toNat < S2576.size a)
theorem k0_idx17_inb : ∀ (v160 : IVec S16 32) (k0_hw15 : k0_chk15 v160), ∀ a x, ((![v160] : Fin 1 → IVec S16 32) a x).toNat < S2576.size a := fun v160 k0_hw15 => k0_hw15

def k0_chk16 (v162 : IVec S16 32) : Prop :=
  (∀ a x, ((![v162] : Fin 1 → IVec S16 32) a x).toNat < S2576.size a)
theorem k0_idx18_inb : ∀ (v162 : IVec S16 32) (k0_hw16 : k0_chk16 v162), ∀ a x, ((![v162] : Fin 1 → IVec S16 32) a x).toNat < S2576.size a := fun v162 k0_hw16 => k0_hw16

def k0_chk17 (v164 : IVec S16 32) : Prop :=
  (∀ a x, ((![v164] : Fin 1 → IVec S16 32) a x).toNat < S2576.size a)
theorem k0_idx19_inb : ∀ (v164 : IVec S16 32) (k0_hw17 : k0_chk17 v164), ∀ a x, ((![v164] : Fin 1 → IVec S16 32) a x).toNat < S2576.size a := fun v164 k0_hw17 => k0_hw17

def k0_chk18 (v155 : IVec S16 32) : Prop :=
  (∀ a x, ((![v155] : Fin 1 → IVec S16 32) a x).toNat < S528.size a) ∧
  (∀ a x, ((![v155] : Fin 1 → IVec S16 32) a x).toNat < S528.size a)
theorem k0_idx20_inb : ∀ (v155 : IVec S16 32) (k0_hw18 : k0_chk18 v155), ∀ a x, ((![v155] : Fin 1 → IVec S16 32) a x).toNat < S528.size a := fun v155 k0_hw18 => k0_hw18.1
theorem k0_idx21_inb : ∀ (v155 : IVec S16 32) (k0_hw18 : k0_chk18 v155), ∀ a x, ((![v155] : Fin 1 → IVec S16 32) a x).toNat < S528.size a := fun v155 k0_hw18 => k0_hw18.2
@[reducible] def k0_t5_loop : Scf.Loop 32 :=
  let c0_i32_68 : BitVec 32 := 0#32
  let c32_i32_69 : BitVec 32 := 32#32
  let v170 : BitVec 32 := Scalar.addi c0_i32_68 c32_i32_69
  let c1_i32_70 : BitVec 32 := 1#32
  ⟨c0_i32_68, v170, c1_i32_70⟩

def k0_chk19 (v182 : IVec S16 32) : Prop :=
  (∀ a x, ((![v182] : Fin 1 → IVec S16 32) a x).toNat < S2576.size a)
theorem k0_idx22_inb : ∀ (v182 : IVec S16 32) (k0_hw19 : k0_chk19 v182), ∀ a x, ((![v182] : Fin 1 → IVec S16 32) a x).toNat < S2576.size a := fun v182 k0_hw19 => k0_hw19
def k0_off9 (k0_t4 : Fin k0_t4_loop.trips) (k0_t5 : Fin k0_t5_loop.trips) : Fin 1 → Nat :=
  let c0_i32_56 : BitVec 32 := 0#32
  let c1_i32_58 : BitVec 32 := 1#32
  let arg26 : BitVec 32 := Scf.iv c0_i32_56 c1_i32_58 k0_t4
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t5
  let c80_i32 : BitVec 32 := 80#32
  let v174 : BitVec 32 := Scalar.muli arg28 c80_i32
  let v184 : BitVec 32 := Scalar.addi v168 v174
  let c0_i32_81 : BitVec 32 := 0#32
  let v185 : BitVec 32 := Scalar.addi v184 c0_i32_81
  let v186 : Index := Scalar.indexCast v185
  ![v186.toNat]

def k0_chk20 (v203 : IVec S16 32) : Prop :=
  (∀ a x, ((![v203] : Fin 1 → IVec S16 32) a x).toNat < S2576.size a)
theorem k0_idx23_inb : ∀ (v203 : IVec S16 32) (k0_hw20 : k0_chk20 v203), ∀ a x, ((![v203] : Fin 1 → IVec S16 32) a x).toNat < S2576.size a := fun v203 k0_hw20 => k0_hw20
def k0_off10 (k0_t4 : Fin k0_t4_loop.trips) (k0_t5 : Fin k0_t5_loop.trips) : Fin 1 → Nat :=
  let c0_i32_56 : BitVec 32 := 0#32
  let c1_i32_58 : BitVec 32 := 1#32
  let arg26 : BitVec 32 := Scf.iv c0_i32_56 c1_i32_58 k0_t4
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t5
  let c80_i32 : BitVec 32 := 80#32
  let v174 : BitVec 32 := Scalar.muli arg28 c80_i32
  let v205 : BitVec 32 := Scalar.addi v168 v174
  let c16_i32_85 : BitVec 32 := 16#32
  let v206 : BitVec 32 := Scalar.addi v205 c16_i32_85
  let v207 : Index := Scalar.indexCast v206
  ![v207.toNat]

def k0_chk21 (v224 : IVec S16 32) : Prop :=
  (∀ a x, ((![v224] : Fin 1 → IVec S16 32) a x).toNat < S2576.size a)
theorem k0_idx24_inb : ∀ (v224 : IVec S16 32) (k0_hw21 : k0_chk21 v224), ∀ a x, ((![v224] : Fin 1 → IVec S16 32) a x).toNat < S2576.size a := fun v224 k0_hw21 => k0_hw21
def k0_off11 (k0_t4 : Fin k0_t4_loop.trips) (k0_t5 : Fin k0_t5_loop.trips) : Fin 1 → Nat :=
  let c0_i32_56 : BitVec 32 := 0#32
  let c1_i32_58 : BitVec 32 := 1#32
  let arg26 : BitVec 32 := Scf.iv c0_i32_56 c1_i32_58 k0_t4
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t5
  let c80_i32 : BitVec 32 := 80#32
  let v174 : BitVec 32 := Scalar.muli arg28 c80_i32
  let v226 : BitVec 32 := Scalar.addi v168 v174
  let c32_i32_89 : BitVec 32 := 32#32
  let v227 : BitVec 32 := Scalar.addi v226 c32_i32_89
  let v228 : Index := Scalar.indexCast v227
  ![v228.toNat]

def k0_chk22 (v245 : IVec S16 32) : Prop :=
  (∀ a x, ((![v245] : Fin 1 → IVec S16 32) a x).toNat < S2576.size a)
theorem k0_idx25_inb : ∀ (v245 : IVec S16 32) (k0_hw22 : k0_chk22 v245), ∀ a x, ((![v245] : Fin 1 → IVec S16 32) a x).toNat < S2576.size a := fun v245 k0_hw22 => k0_hw22
def k0_off12 (k0_t4 : Fin k0_t4_loop.trips) (k0_t5 : Fin k0_t5_loop.trips) : Fin 1 → Nat :=
  let c0_i32_56 : BitVec 32 := 0#32
  let c1_i32_58 : BitVec 32 := 1#32
  let arg26 : BitVec 32 := Scf.iv c0_i32_56 c1_i32_58 k0_t4
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t5
  let c80_i32 : BitVec 32 := 80#32
  let v174 : BitVec 32 := Scalar.muli arg28 c80_i32
  let v247 : BitVec 32 := Scalar.addi v168 v174
  let c48_i32_93 : BitVec 32 := 48#32
  let v248 : BitVec 32 := Scalar.addi v247 c48_i32_93
  let v249 : Index := Scalar.indexCast v248
  ![v249.toNat]

def k0_chk23 (v266 : IVec S16 32) : Prop :=
  (∀ a x, ((![v266] : Fin 1 → IVec S16 32) a x).toNat < S2576.size a)
theorem k0_idx26_inb : ∀ (v266 : IVec S16 32) (k0_hw23 : k0_chk23 v266), ∀ a x, ((![v266] : Fin 1 → IVec S16 32) a x).toNat < S2576.size a := fun v266 k0_hw23 => k0_hw23
def k0_off13 (k0_t4 : Fin k0_t4_loop.trips) (k0_t5 : Fin k0_t5_loop.trips) : Fin 1 → Nat :=
  let c0_i32_56 : BitVec 32 := 0#32
  let c1_i32_58 : BitVec 32 := 1#32
  let arg26 : BitVec 32 := Scf.iv c0_i32_56 c1_i32_58 k0_t4
  let c2555_i32 : BitVec 32 := 2555#32
  let v168 : BitVec 32 := Scalar.muli arg26 c2555_i32
  let c0_i32_68 : BitVec 32 := 0#32
  let c1_i32_70 : BitVec 32 := 1#32
  let arg28 : BitVec 32 := Scf.iv c0_i32_68 c1_i32_70 k0_t5
  let c80_i32 : BitVec 32 := 80#32
  let v174 : BitVec 32 := Scalar.muli arg28 c80_i32
  let v268 : BitVec 32 := Scalar.addi v168 v174
  let c64_i32_97 : BitVec 32 := 64#32
  let v269 : BitVec 32 := Scalar.addi v268 c64_i32_97
  let v270 : Index := Scalar.indexCast v269
  ![v270.toNat]
@[reducible] def k0_t6_loop : Scf.Loop 32 :=
  let c0_i32_73 : BitVec 32 := 0#32
  let c32_i32_74 : BitVec 32 := 32#32
  let v172 : BitVec 32 := Scalar.addi c0_i32_73 c32_i32_74
  let c1_i32_75 : BitVec 32 := 1#32
  ⟨c0_i32_73, v172, c1_i32_75⟩
def k0_off14 (k0_t4 : Fin k0_t4_loop.trips) (k0_t6 : Fin k0_t6_loop.trips) : Fin 1 → Nat :=
  let c0_i32_56 : BitVec 32 := 0#32
  let c1_i32_58 : BitVec 32 := 1#32
  let arg26 : BitVec 32 := Scf.iv c0_i32_56 c1_i32_58 k0_t4
  let c511_i32 : BitVec 32 := 511#32
  let v169 : BitVec 32 := Scalar.muli arg26 c511_i32
  let c0_i32_73 : BitVec 32 := 0#32
  let c1_i32_75 : BitVec 32 := 1#32
  let arg28 : BitVec 32 := Scf.iv c0_i32_73 c1_i32_75 k0_t6
  let c16_i32_81 : BitVec 32 := 16#32
  let v182 : BitVec 32 := Scalar.muli arg28 c16_i32_81
  let v183 : BitVec 32 := Scalar.addi v169 v182
  let v185 : Index := Scalar.indexCast v183
  ![v185.toNat]

def k0_chk24 (v181 : IVec S16 32) : Prop :=
  (∀ a x, ((![v181] : Fin 1 → IVec S16 32) a x).toNat < S528.size a) ∧
  (∀ a x, ((![v181] : Fin 1 → IVec S16 32) a x).toNat < S528.size a)
theorem k0_idx27_inb : ∀ (v181 : IVec S16 32) (k0_hw24 : k0_chk24 v181), ∀ a x, ((![v181] : Fin 1 → IVec S16 32) a x).toNat < S528.size a := fun v181 k0_hw24 => k0_hw24.1
theorem k0_idx28_inb : ∀ (v181 : IVec S16 32) (k0_hw24 : k0_chk24 v181), ∀ a x, ((![v181] : Fin 1 → IVec S16 32) a x).toNat < S528.size a := fun v181 k0_hw24 => k0_hw24.2
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_60 : BitVec 32 := 2#32
  let v144 : BitVec 32 := Scalar.muli v1 c2_i32_60
  let c1_i32_61 : BitVec 32 := 1#32
  let v145 : BitVec 32 := Scalar.addi v144 c1_i32_61
  let c20440_i32_62 : BitVec 32 := 20440#32
  let v146 : BitVec 32 := Scalar.muli v145 c20440_i32_62
  v146
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_63 : BitVec 32 := 2#32
  let v148 : BitVec 32 := Scalar.muli v1 c2_i32_63
  let c1_i32_64 : BitVec 32 := 1#32
  let v149 : BitVec 32 := Scalar.addi v148 c1_i32_64
  let c4088_i32_65 : BitVec 32 := 4088#32
  let v150 : BitVec 32 := Scalar.muli v149 c4088_i32_65
  v150
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x5 : Shape := ⟨2, ![512, 5]⟩
abbrev S512 : Shape := ⟨1, ![512]⟩
abbrev S1x3 : Shape := ⟨2, ![1, 3]⟩
abbrev S1 : Shape := ⟨1, ![1]⟩
abbrev S512x512 : Shape := ⟨2, ![512, 512]⟩
abbrev S262144 : Shape := ⟨1, ![262144]⟩
abbrev S1x512 : Shape := ⟨2, ![1, 512]⟩
abbrev S_ : Shape := ⟨0, ![]⟩
abbrev S261632 : Shape := ⟨1, ![261632]⟩
abbrev S261632x1 : Shape := ⟨2, ![261632, 1]⟩
abbrev S1x1 : Shape := ⟨2, ![1, 1]⟩
abbrev S261632x5 : Shape := ⟨2, ![261632, 5]⟩

abbrev nBuf : Space → Nat
  | .hbm => 226
  | .vmem => 0
  | .smem => 0
  | _ => 0

abbrev hbmTy0_0 (i : Nat) : BufTy := match i % 128 with
  | 0 => ⟨S512x5, .f32⟩
  | 1 => ⟨S512, .i32⟩
  | 2 => ⟨S512, .f32⟩
  | 3 => ⟨S1x3, .f32⟩
  | 4 => ⟨S1, .i32⟩
  | 5 => ⟨S512, .i32⟩
  | 6 => ⟨S512x512, .i32⟩
  | 7 => ⟨S262144, .i32⟩
  | 8 => ⟨S512, .i32⟩
  | 9 => ⟨S1x512, .i32⟩
  | 10 => ⟨S512x512, .i32⟩
  | 11 => ⟨S262144, .i32⟩
  | 12 => ⟨S262144, .i32⟩
  | 13 => ⟨S262144, .i1⟩
  | 14 => ⟨S_, .i32⟩
  | 15 => ⟨S_, .i32⟩
  | 16 => ⟨S262144, .i32⟩
  | 17 => ⟨S262144, .i32⟩
  | 18 => ⟨S262144, .i32⟩
  | 19 => ⟨S261632, .i32⟩
  | 20 => ⟨S_, .i32⟩
  | 21 => ⟨S261632, .i32⟩
  | 22 => ⟨S261632, .i1⟩
  | 23 => ⟨S_, .i32⟩
  | 24 => ⟨S261632, .i32⟩
  | 25 => ⟨S261632, .i32⟩
  | 26 => ⟨S261632, .i32⟩
  | 27 => ⟨S261632x1, .i32⟩
  | 28 => ⟨S1, .i32⟩
  | 29 => ⟨S_, .i32⟩
  | 30 => ⟨S261632x1, .i32⟩
  | 31 => ⟨S261632x1, .i1⟩
  | 32 => ⟨S1x1, .i32⟩
  | 33 => ⟨S261632x1, .i32⟩
  | 34 => ⟨S261632x1, .i1⟩
  | 35 => ⟨S261632x1, .i1⟩
  | 36 => ⟨S_, .i1⟩
  | 37 => ⟨S261632, .i1⟩
  | 38 => ⟨S261632, .i32⟩
  | 39 => ⟨S_, .i32⟩
  | 40 => ⟨S261632, .i32⟩
  | 41 => ⟨S261632, .i32⟩
  | 42 => ⟨S_, .i32⟩
  | 43 => ⟨S261632, .i32⟩
  | 44 => ⟨S261632, .i1⟩
  | 45 => ⟨S_, .i32⟩
  | 46 => ⟨S261632, .i32⟩
  | 47 => ⟨S261632, .i32⟩
  | 48 => ⟨S261632, .i32⟩
  | 49 => ⟨S261632x1, .i32⟩
  | 50 => ⟨S1, .i32⟩
  | 51 => ⟨S_, .i32⟩
  | 52 => ⟨S261632x1, .i32⟩
  | 53 => ⟨S261632x1, .i1⟩
  | 54 => ⟨S1x1, .i32⟩
  | 55 => ⟨S261632x1, .i32⟩
  | 56 => ⟨S261632x1, .i1⟩
  | 57 => ⟨S261632x1, .i1⟩
  | 58 => ⟨S_, .i1⟩
  | 59 => ⟨S261632, .i1⟩
  | 60 => ⟨S261632, .i32⟩
  | 61 => ⟨S_, .i32⟩
  | 62 => ⟨S261632, .i32⟩
  | 63 => ⟨S261632, .i32⟩
  | 64 => ⟨S_, .i32⟩
  | 65 => ⟨S261632, .i32⟩
  | 66 => ⟨S261632, .i1⟩
  | 67 => ⟨S_, .i32⟩
  | 68 => ⟨S261632, .i32⟩
  | 69 => ⟨S261632, .i32⟩
  | 70 => ⟨S261632, .i32⟩
  | 71 => ⟨S261632x1, .i32⟩
  | 72 => ⟨S1, .i32⟩
  | 73 => ⟨S_, .i32⟩
  | 74 => ⟨S261632x1, .i32⟩
  | 75 => ⟨S261632x1, .i1⟩
  | 76 => ⟨S1x1, .i32⟩
  | 77 => ⟨S261632x1, .i32⟩
  | 78 => ⟨S261632x1, .i1⟩
  | 79 => ⟨S261632x1, .i1⟩
  | 80 => ⟨S_, .i1⟩
  | 81 => ⟨S261632, .i1⟩
  | 82 => ⟨S261632x5, .f32⟩
  | 83 => ⟨S261632x5, .i1⟩
  | 84 => ⟨S_, .f32⟩
  | 85 => ⟨S261632x5, .f32⟩
  | 86 => ⟨S261632x5, .f32⟩
  | 87 => ⟨S_, .i32⟩
  | 88 => ⟨S261632, .i32⟩
  | 89 => ⟨S261632, .i1⟩
  | 90 => ⟨S_, .i32⟩
  | 91 => ⟨S261632, .i32⟩
  | 92 => ⟨S261632, .i32⟩
  | 93 => ⟨S261632, .i32⟩
  | 94 => ⟨S261632x1, .i32⟩
  | 95 => ⟨S1, .i32⟩
  | 96 => ⟨S_, .i32⟩
  | 97 => ⟨S261632x1, .i32⟩
  | 98 => ⟨S261632x1, .i1⟩
  | 99 => ⟨S1x1, .i32⟩
  | 100 => ⟨S261632x1, .i32⟩
  | 101 => ⟨S261632x1, .i1⟩
  | 102 => ⟨S261632x1, .i1⟩
  | 103 => ⟨S_, .i1⟩
  | 104 => ⟨S261632, .i1⟩
  | 105 => ⟨S261632x5, .f32⟩
  | 106 => ⟨S261632x5, .i1⟩
  | 107 => ⟨S_, .f32⟩
  | 108 => ⟨S261632x5, .f32⟩
  | 109 => ⟨S261632x5, .f32⟩
  | 110 => ⟨S_, .i32⟩
  | 111 => ⟨S261632, .i32⟩
  | 112 => ⟨S261632, .i1⟩
  | 113 => ⟨S_, .i32⟩
  | 114 => ⟨S261632, .i32⟩
  | 115 => ⟨S261632, .i32⟩
  | 116 => ⟨S261632, .i32⟩
  | 117 => ⟨S261632x1, .i32⟩
  | 118 => ⟨S1, .i32⟩
  | 119 => ⟨S_, .i32⟩
  | 120 => ⟨S261632x1, .i32⟩
  | 121 => ⟨S261632x1, .i1⟩
  | 122 => ⟨S1x1, .i32⟩
  | 123 => ⟨S261632x1, .i32⟩
  | 124 => ⟨S261632x1, .i1⟩
  | 125 => ⟨S261632x1, .i1⟩
  | 126 => ⟨S_, .i1⟩
  | 127 => ⟨S261632, .i1⟩
  | _ => ⟨S512x5, .f32⟩

abbrev hbmTy0_1 (i : Nat) : BufTy := match i % 128 with
  | 0 => ⟨S261632, .i32⟩
  | 1 => ⟨S_, .i32⟩
  | 2 => ⟨S261632, .i32⟩
  | 3 => ⟨S261632, .i32⟩
  | 4 => ⟨S_, .i32⟩
  | 5 => ⟨S261632, .i32⟩
  | 6 => ⟨S261632, .i1⟩
  | 7 => ⟨S_, .i32⟩
  | 8 => ⟨S261632, .i32⟩
  | 9 => ⟨S261632, .i32⟩
  | 10 => ⟨S261632, .i32⟩
  | 11 => ⟨S261632x1, .i32⟩
  | 12 => ⟨S1, .i32⟩
  | 13 => ⟨S_, .i32⟩
  | 14 => ⟨S261632x1, .i32⟩
  | 15 => ⟨S261632x1, .i1⟩
  | 16 => ⟨S1x1, .i32⟩
  | 17 => ⟨S261632x1, .i32⟩
  | 18 => ⟨S261632x1, .i1⟩
  | 19 => ⟨S261632x1, .i1⟩
  | 20 => ⟨S_, .i1⟩
  | 21 => ⟨S261632, .i1⟩
  | 22 => ⟨S261632, .i32⟩
  | 23 => ⟨S_, .i32⟩
  | 24 => ⟨S261632, .i32⟩
  | 25 => ⟨S261632, .i32⟩
  | 26 => ⟨S_, .i32⟩
  | 27 => ⟨S261632, .i32⟩
  | 28 => ⟨S261632, .i1⟩
  | 29 => ⟨S_, .i32⟩
  | 30 => ⟨S261632, .i32⟩
  | 31 => ⟨S261632, .i32⟩
  | 32 => ⟨S261632, .i32⟩
  | 33 => ⟨S261632x1, .i32⟩
  | 34 => ⟨S1, .i32⟩
  | 35 => ⟨S_, .i32⟩
  | 36 => ⟨S261632x1, .i32⟩
  | 37 => ⟨S261632x1, .i1⟩
  | 38 => ⟨S1x1, .i32⟩
  | 39 => ⟨S261632x1, .i32⟩
  | 40 => ⟨S261632x1, .i1⟩
  | 41 => ⟨S261632x1, .i1⟩
  | 42 => ⟨S_, .i1⟩
  | 43 => ⟨S261632, .i1⟩
  | 44 => ⟨S261632, .f32⟩
  | 45 => ⟨S_, .f32⟩
  | 46 => ⟨S261632, .f32⟩
  | 47 => ⟨S261632, .f32⟩
  | 48 => ⟨S_, .i32⟩
  | 49 => ⟨S261632, .i32⟩
  | 50 => ⟨S261632, .i1⟩
  | 51 => ⟨S_, .i32⟩
  | 52 => ⟨S261632, .i32⟩
  | 53 => ⟨S261632, .i32⟩
  | 54 => ⟨S261632, .i32⟩
  | 55 => ⟨S261632x1, .i32⟩
  | 56 => ⟨S1, .i32⟩
  | 57 => ⟨S_, .i32⟩
  | 58 => ⟨S261632x1, .i32⟩
  | 59 => ⟨S261632x1, .i1⟩
  | 60 => ⟨S1x1, .i32⟩
  | 61 => ⟨S261632x1, .i32⟩
  | 62 => ⟨S261632x1, .i1⟩
  | 63 => ⟨S261632x1, .i1⟩
  | 64 => ⟨S_, .i1⟩
  | 65 => ⟨S261632, .i1⟩
  | 66 => ⟨S261632, .f32⟩
  | 67 => ⟨S_, .f32⟩
  | 68 => ⟨S261632, .f32⟩
  | 69 => ⟨S261632, .f32⟩
  | 70 => ⟨S261632x1, .f32⟩
  | 71 => ⟨S261632, .f32⟩
  | 72 => ⟨S261632x1, .f32⟩
  | 73 => ⟨S261632, .f32⟩
  | 74 => ⟨S261632, .f32⟩
  | 75 => ⟨S261632x1, .f32⟩
  | 76 => ⟨S261632, .f32⟩
  | 77 => ⟨S261632x1, .f32⟩
  | 78 => ⟨S261632, .f32⟩
  | 79 => ⟨S261632, .f32⟩
  | 80 => ⟨S261632x1, .f32⟩
  | 81 => ⟨S261632, .f32⟩
  | 82 => ⟨S261632x1, .f32⟩
  | 83 => ⟨S261632, .f32⟩
  | 84 => ⟨S261632, .f32⟩
  | 85 => ⟨S261632x1, .f32⟩
  | 86 => ⟨S261632, .f32⟩
  | 87 => ⟨S261632x1, .f32⟩
  | 88 => ⟨S261632, .f32⟩
  | 89 => ⟨S261632, .f32⟩
  | 90 => ⟨S261632x1, .f32⟩
  | 91 => ⟨S261632, .f32⟩
  | 92 => ⟨S261632x1, .f32⟩
  | 93 => ⟨S261632x1, .f32⟩
  | 94 => ⟨S261632x1, .f32⟩
  | 95 => ⟨S261632x1, .f32⟩
  | 96 => ⟨S261632x1, .f32⟩
  | 97 => ⟨S261632x5, .f32⟩
  | _ => ⟨S512x5, .f32⟩

abbrev hbmTy (i : Nat) : BufTy := match i / 128 with
  | 0 => hbmTy0_0 i
  | 1 => hbmTy0_1 i
  | _ => ⟨S512x5, .f32⟩

abbrev bufTy : (tb : Table) → Fin (tcTables nBuf tb) → BufTy
  | .hbm, ⟨i, _⟩ => hbmTy i
  | _, _ => ⟨S512x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call2_c : Ref sig .tc := ⟨.hbm, 20, rfl⟩
abbrev main_call2_v0 : Ref sig .tc := ⟨.hbm, 21, rfl⟩
abbrev main_call2_v1 : Ref sig .tc := ⟨.hbm, 22, rfl⟩
abbrev main_call2_c_0 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_c_1 : Ref sig .tc := ⟨.hbm, 28, rfl⟩
abbrev main_call2_c_2 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_v9 : Ref sig .tc := ⟨.hbm, 33, rfl⟩
abbrev main_call2_v10 : Ref sig .tc := ⟨.hbm, 34, rfl⟩
abbrev main_call2_v11 : Ref sig .tc := ⟨.hbm, 35, rfl⟩
abbrev main_call2_c_3 : Ref sig .tc := ⟨.hbm, 36, rfl⟩
abbrev main_call2_v12 : Ref sig .tc := ⟨.hbm, 37, rfl⟩
abbrev main_call2_v13 : Ref sig .tc := ⟨.hbm, 38, rfl⟩
abbrev main_call2_c_4 : Ref sig .tc := ⟨.hbm, 39, rfl⟩
abbrev main_call2_v14 : Ref sig .tc := ⟨.hbm, 40, rfl⟩
abbrev main_v12 : Ref sig .tc := ⟨.hbm, 41, rfl⟩
abbrev main_call3_c : Ref sig .tc := ⟨.hbm, 42, rfl⟩
abbrev main_call3_v0 : Ref sig .tc := ⟨.hbm, 43, rfl⟩
abbrev main_call3_v1 : Ref sig .tc := ⟨.hbm, 44, rfl⟩
abbrev main_call3_c_0 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_v5 : Ref sig .tc := ⟨.hbm, 49, rfl⟩
abbrev main_call3_c_1 : Ref sig .tc := ⟨.hbm, 50, rfl⟩
abbrev main_call3_c_2 : Ref sig .tc := ⟨.hbm, 51, rfl⟩
abbrev main_call3_v6 : Ref sig .tc := ⟨.hbm, 52, rfl⟩
abbrev main_call3_v7 : Ref sig .tc := ⟨.hbm, 53, rfl⟩
abbrev main_call3_v8 : Ref sig .tc := ⟨.hbm, 54, rfl⟩
abbrev main_call3_v9 : Ref sig .tc := ⟨.hbm, 55, rfl⟩
abbrev main_call3_v10 : Ref sig .tc := ⟨.hbm, 56, rfl⟩
abbrev main_call3_v11 : Ref sig .tc := ⟨.hbm, 57, rfl⟩
abbrev main_call3_c_3 : Ref sig .tc := ⟨.hbm, 58, rfl⟩
abbrev main_call3_v12 : Ref sig .tc := ⟨.hbm, 59, rfl⟩
abbrev main_call3_v13 : Ref sig .tc := ⟨.hbm, 60, rfl⟩
abbrev main_call3_c_4 : Ref sig .tc := ⟨.hbm, 61, rfl⟩
abbrev main_call3_v14 : Ref sig .tc := ⟨.hbm, 62, rfl⟩
abbrev main_v13 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_c_1 : Ref sig .tc := ⟨.hbm, 72, rfl⟩
abbrev main_call4_c_2 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_c_3 : Ref sig .tc := ⟨.hbm, 80, rfl⟩
abbrev main_call4_v12 : Ref sig .tc := ⟨.hbm, 81, rfl⟩
abbrev main_call4_v13 : Ref sig .tc := ⟨.hbm, 82, rfl⟩
abbrev main_call4_v14 : Ref sig .tc := ⟨.hbm, 83, rfl⟩
abbrev main_call4_cst : Ref sig .tc := ⟨.hbm, 84, rfl⟩
abbrev main_call4_v15 : Ref sig .tc := ⟨.hbm, 85, rfl⟩
abbrev main_v14 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_call5_c_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_c_1 : Ref sig .tc := ⟨.hbm, 95, rfl⟩
abbrev main_call5_c_2 : Ref sig .tc := ⟨.hbm, 96, rfl⟩
abbrev main_call5_v6 : Ref sig .tc := ⟨.hbm, 97, rfl⟩
abbrev main_call5_v7 : Ref sig .tc := ⟨.hbm, 98, rfl⟩
abbrev main_call5_v8 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_3 : Ref sig .tc := ⟨.hbm, 103, rfl⟩
abbrev main_call5_v12 : Ref sig .tc := ⟨.hbm, 104, rfl⟩
abbrev main_call5_v13 : Ref sig .tc := ⟨.hbm, 105, rfl⟩
abbrev main_call5_v14 : Ref sig .tc := ⟨.hbm, 106, rfl⟩
abbrev main_call5_cst : Ref sig .tc := ⟨.hbm, 107, rfl⟩
abbrev main_call5_v15 : Ref sig .tc := ⟨.hbm, 108, rfl⟩
abbrev main_v15 : Ref sig .tc := ⟨.hbm, 109, rfl⟩
abbrev main_call6_c : Ref sig .tc := ⟨.hbm, 110, rfl⟩
abbrev main_call6_v0 : Ref sig .tc := ⟨.hbm, 111, rfl⟩
abbrev main_call6_v1 : Ref sig .tc := ⟨.hbm, 112, rfl⟩
abbrev main_call6_c_0 : Ref sig .tc := ⟨.hbm, 113, rfl⟩
abbrev main_call6_v2 : Ref sig .tc := ⟨.hbm, 114, rfl⟩
abbrev main_call6_v3 : Ref sig .tc := ⟨.hbm, 115, rfl⟩
abbrev main_call6_v4 : Ref sig .tc := ⟨.hbm, 116, rfl⟩
abbrev main_call6_v5 : Ref sig .tc := ⟨.hbm, 117, rfl⟩
abbrev main_call6_c_1 : Ref sig .tc := ⟨.hbm, 118, rfl⟩
abbrev main_call6_c_2 : Ref sig .tc := ⟨.hbm, 119, rfl⟩
abbrev main_call6_v6 : Ref sig .tc := ⟨.hbm, 120, rfl⟩
abbrev main_call6_v7 : Ref sig .tc := ⟨.hbm, 121, rfl⟩
abbrev main_call6_v8 : Ref sig .tc := ⟨.hbm, 122, rfl⟩
abbrev main_call6_v9 : Ref sig .tc := ⟨.hbm, 123, rfl⟩
abbrev main_call6_v10 : Ref sig .tc := ⟨.hbm, 124, rfl⟩
abbrev main_call6_v11 : Ref sig .tc := ⟨.hbm, 125, rfl⟩
abbrev main_call6_c_3 : Ref sig .tc := ⟨.hbm, 126, rfl⟩
abbrev main_call6_v12 : Ref sig .tc := ⟨.hbm, 127, rfl⟩
abbrev main_call6_v13 : Ref sig .tc := ⟨.hbm, 128, rfl⟩
abbrev main_call6_c_4 : Ref sig .tc := ⟨.hbm, 129, rfl⟩
abbrev main_call6_v14 : Ref sig .tc := ⟨.hbm, 130, rfl⟩
abbrev main_v16 : Ref sig .tc := ⟨.hbm, 131, rfl⟩
abbrev main_call7_c : Ref sig .tc := ⟨.hbm, 132, rfl⟩
abbrev main_call7_v0 : Ref sig .tc := ⟨.hbm, 133, rfl⟩
abbrev main_call7_v1 : Ref sig .tc := ⟨.hbm, 134, rfl⟩
abbrev main_call7_c_0 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_call7_v5 : Ref sig .tc := ⟨.hbm, 139, rfl⟩
abbrev main_call7_c_1 : Ref sig .tc := ⟨.hbm, 140, rfl⟩
abbrev main_call7_c_2 : Ref sig .tc := ⟨.hbm, 141, rfl⟩
abbrev main_call7_v6 : Ref sig .tc := ⟨.hbm, 142, rfl⟩
abbrev main_call7_v7 : Ref sig .tc := ⟨.hbm, 143, rfl⟩
abbrev main_call7_v8 : Ref sig .tc := ⟨.hbm, 144, rfl⟩
abbrev main_call7_v9 : Ref sig .tc := ⟨.hbm, 145, rfl⟩
abbrev main_call7_v10 : Ref sig .tc := ⟨.hbm, 146, rfl⟩
abbrev main_call7_v11 : Ref sig .tc := ⟨.hbm, 147, rfl⟩
abbrev main_call7_c_3 : Ref sig .tc := ⟨.hbm, 148, rfl⟩
abbrev main_call7_v12 : Ref sig .tc := ⟨.hbm, 149, rfl⟩
abbrev main_call7_v13 : Ref sig .tc := ⟨.hbm, 150, rfl⟩
abbrev main_call7_c_4 : Ref sig .tc := ⟨.hbm, 151, rfl⟩
abbrev main_call7_v14 : Ref sig .tc := ⟨.hbm, 152, rfl⟩
abbrev main_v17 : Ref sig .tc := ⟨.hbm, 153, rfl⟩
abbrev main_call8_c : Ref sig .tc := ⟨.hbm, 154, rfl⟩
abbrev main_call8_v0 : Ref sig .tc := ⟨.hbm, 155, rfl⟩
abbrev main_call8_v1 : Ref sig .tc := ⟨.hbm, 156, rfl⟩
abbrev main_call8_c_0 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_v5 : Ref sig .tc := ⟨.hbm, 161, rfl⟩
abbrev main_call8_c_1 : Ref sig .tc := ⟨.hbm, 162, rfl⟩
abbrev main_call8_c_2 : Ref sig .tc := ⟨.hbm, 163, rfl⟩
abbrev main_call8_v6 : Ref sig .tc := ⟨.hbm, 164, rfl⟩
abbrev main_call8_v7 : Ref sig .tc := ⟨.hbm, 165, rfl⟩
abbrev main_call8_v8 : Ref sig .tc := ⟨.hbm, 166, rfl⟩
abbrev main_call8_v9 : Ref sig .tc := ⟨.hbm, 167, rfl⟩
abbrev main_call8_v10 : Ref sig .tc := ⟨.hbm, 168, rfl⟩
abbrev main_call8_v11 : Ref sig .tc := ⟨.hbm, 169, rfl⟩
abbrev main_call8_c_3 : Ref sig .tc := ⟨.hbm, 170, rfl⟩
abbrev main_call8_v12 : Ref sig .tc := ⟨.hbm, 171, rfl⟩
abbrev main_call8_v13 : Ref sig .tc := ⟨.hbm, 172, rfl⟩
abbrev main_call8_cst : Ref sig .tc := ⟨.hbm, 173, rfl⟩
abbrev main_call8_v14 : Ref sig .tc := ⟨.hbm, 174, rfl⟩
abbrev main_v18 : Ref sig .tc := ⟨.hbm, 175, rfl⟩
abbrev main_call9_c : Ref sig .tc := ⟨.hbm, 176, rfl⟩
abbrev main_call9_v0 : Ref sig .tc := ⟨.hbm, 177, rfl⟩
abbrev main_call9_v1 : Ref sig .tc := ⟨.hbm, 178, rfl⟩
abbrev main_call9_c_0 : Ref sig .tc := ⟨.hbm, 179, rfl⟩
abbrev main_call9_v2 : Ref sig .tc := ⟨.hbm, 180, rfl⟩
abbrev main_call9_v3 : Ref sig .tc := ⟨.hbm, 181, rfl⟩
abbrev main_call9_v4 : Ref sig .tc := ⟨.hbm, 182, rfl⟩
abbrev main_call9_v5 : Ref sig .tc := ⟨.hbm, 183, rfl⟩
abbrev main_call9_c_1 : Ref sig .tc := ⟨.hbm, 184, rfl⟩
abbrev main_call9_c_2 : Ref sig .tc := ⟨.hbm, 185, rfl⟩
abbrev main_call9_v6 : Ref sig .tc := ⟨.hbm, 186, rfl⟩
abbrev main_call9_v7 : Ref sig .tc := ⟨.hbm, 187, rfl⟩
abbrev main_call9_v8 : Ref sig .tc := ⟨.hbm, 188, rfl⟩
abbrev main_call9_v9 : Ref sig .tc := ⟨.hbm, 189, rfl⟩
abbrev main_call9_v10 : Ref sig .tc := ⟨.hbm, 190, rfl⟩
abbrev main_call9_v11 : Ref sig .tc := ⟨.hbm, 191, rfl⟩
abbrev main_call9_c_3 : Ref sig .tc := ⟨.hbm, 192, rfl⟩
abbrev main_call9_v12 : Ref sig .tc := ⟨.hbm, 193, rfl⟩
abbrev main_call9_v13 : Ref sig .tc := ⟨.hbm, 194, rfl⟩
abbrev main_call9_cst : Ref sig .tc := ⟨.hbm, 195, rfl⟩
abbrev main_call9_v14 : Ref sig .tc := ⟨.hbm, 196, rfl⟩
abbrev main_v19 : Ref sig .tc := ⟨.hbm, 197, rfl⟩
abbrev main_v20 : Ref sig .tc := ⟨.hbm, 198, rfl⟩
abbrev main_v21 : Ref sig .tc := ⟨.hbm, 199, rfl⟩
abbrev main_v22 : Ref sig .tc := ⟨.hbm, 200, rfl⟩
abbrev main_v23 : Ref sig .tc := ⟨.hbm, 201, rfl⟩
abbrev main_v24 : Ref sig .tc := ⟨.hbm, 202, rfl⟩
abbrev main_v25 : Ref sig .tc := ⟨.hbm, 203, rfl⟩
abbrev main_v26 : Ref sig .tc := ⟨.hbm, 204, rfl⟩
abbrev main_v27 : Ref sig .tc := ⟨.hbm, 205, rfl⟩
abbrev main_v28 : Ref sig .tc := ⟨.hbm, 206, rfl⟩
abbrev main_v29 : Ref sig .tc := ⟨.hbm, 207, rfl⟩
abbrev main_v30 : Ref sig .tc := ⟨.hbm, 208, rfl⟩
abbrev main_v31 : Ref sig .tc := ⟨.hbm, 209, rfl⟩
abbrev main_v32 : Ref sig .tc := ⟨.hbm, 210, rfl⟩
abbrev main_v33 : Ref sig .tc := ⟨.hbm, 211, rfl⟩
abbrev main_v34 : Ref sig .tc := ⟨.hbm, 212, rfl⟩
abbrev main_v35 : Ref sig .tc := ⟨.hbm, 213, rfl⟩
abbrev main_v36 : Ref sig .tc := ⟨.hbm, 214, rfl⟩
abbrev main_v37 : Ref sig .tc := ⟨.hbm, 215, rfl⟩
abbrev main_v38 : Ref sig .tc := ⟨.hbm, 216, rfl⟩
abbrev main_v39 : Ref sig .tc := ⟨.hbm, 217, rfl⟩
abbrev main_v40 : Ref sig .tc := ⟨.hbm, 218, rfl⟩
abbrev main_v41 : Ref sig .tc := ⟨.hbm, 219, rfl⟩
abbrev main_v42 : Ref sig .tc := ⟨.hbm, 220, rfl⟩
abbrev main_v43 : Ref sig .tc := ⟨.hbm, 221, rfl⟩
abbrev main_v44 : Ref sig .tc := ⟨.hbm, 222, rfl⟩
abbrev main_v45 : Ref sig .tc := ⟨.hbm, 223, rfl⟩
abbrev main_v46 : Ref sig .tc := ⟨.hbm, 224, rfl⟩
abbrev main_v47 : Ref sig .tc := ⟨.hbm, 225, rfl⟩

abbrev nD : Nat := 1
abbrev τ : Topo := Topo.v7x

variable {F : FTy → Type} [FloatOps F]
-- ==== Proof.Spec.lean ====
/- What the eight pair arrays and the three box arrays hold, as functions of a flat position; and
   what the kernel's word computations (the source position of a lane, a lane's column in its box)
   come to.

   The 512 rois are rows of 5 numbers, read here as one flat table `A`. Every ordered pair (i, j),
   i ≠ j, has one row in the results, in the order of i and then j; row i therefore owns 511
   results, or 2555 numbers of an array of boxes. -/
module

public import proofs.«01_k».proof.Proof.Gen.KernelIdeal
public import Idealize.ShloMosaic.Lib.WordArith

@[expose] public section

noncomputable section

namespace Cert.Pairs

open Idealize.ShloMosaic Cert.KernelIdeal

variable {F : FTy → Type} [FloatOps F]

/-! ## The arrays as functions of a flat position -/

/-- The subject of the pair that owns number `q` of an array of boxes: that number of its box. -/
def sbjAt (A : ℕ → F .f32) (q : ℕ) : F .f32 := A (5 * (q / 2555) + q % 5)

/-- The object's number: the rois in order, the subject's own five numbers left out. -/
def objAt (A : ℕ → F .f32) (q : ℕ) : F .f32 :=
  A (q % 2555 + if 5 * (q / 2555) ≤ q % 2555 then 5 else 0)

/-- A number of the box around both, from the column it stands in: the batch number is the
    subject's, the two lower corners are least, the two upper ones greatest. -/
def relOf (c : ℕ) (s o : F .f32) : F .f32 :=
  if c = 0 then s else if c ≤ 2 then FloatOps.minimumf o s else FloatOps.maximumf o s

def relAt (A : ℕ → F .f32) (q : ℕ) : F .f32 := relOf (q % 5) (sbjAt A q) (objAt A q)

/-- The subject of pair `q`. -/
def rowOf (q : ℕ) : ℕ := q / 511

/-- The object of pair `q`: the positions in order, the subject left out. -/
def colOf (q : ℕ) : ℕ := q % 511 + if q / 511 ≤ q % 511 then 1 else 0

theorem colOf_lt (q : ℕ) : colOf q < 512 := by
  unfold colOf; have := Nat.mod_lt q (show 0 < 511 by omega); split <;> omega

/-! ## Lanes -/

/-- A lane of a sixteen-lane vector. -/
abbrev lane (x : S16.Idx) : ℕ := (x 0).val

theorem lane_lt (x : S16.Idx) : lane x < 16 := (x 0).isLt

/-- The lane numbers. -/
abbrev lanes : IVec S16 32 := iota .scVector S16 32 [0]

theorem lanes_apply (x : S16.Idx) : lanes x = BitVec.ofNat 32 (lane x) := by
  simp [lanes, iota, lane]

/-- A lane is its number. -/
theorem lane_ext (x : S16.Idx) : x = Shape.ofLane (d := ![16]) (⟨lane x, lane_lt x⟩ : Fin 16) := by
  funext a; obtain rfl : a = 0 := Subsingleton.elim _ _; rfl

/-- The words `st + lane`, moved up by `d` where they have reached `b`. -/
def skip (st : BitVec 32) (b : IVec S16 32) (d : BitVec 32) : IVec S16 32 :=
  addi (addi (broadcast S16 st) lanes)
    (select (cmpi .sge (addi (broadcast S16 st) lanes) b) (broadcast S16 d) (broadcast S16 0#32))

theorem skip_toNat {st : BitVec 32} {b : IVec S16 32} {d : BitVec 32} {n m : ℕ} (hst : st.toNat = n) (hn : n < 2 ^ 20)
    (hd : d.toNat < 2 ^ 20) (hm : m < 2 ^ 20) (x : S16.Idx) (hb : (b x).toNat = m) :
    (skip st b d x).toNat = n + lane x + if m ≤ n + lane x then d.toNat else 0 := by
  have hl := lane_lt x
  have hw : (st + BitVec.ofNat 32 (lane x)).toNat = n + lane x := by
    rw [BitVec.toNat_add, BitVec.toNat_ofNat, hst]; omega
  have hsle : BitVec.sle (b x) (st + BitVec.ofNat 32 (lane x)) = decide (m ≤ n + lane x) := by
    rw [BitVec.sle_eq_decide, BitVec.toInt_eq_toNat_of_lt (by omega), BitVec.toInt_eq_toNat_of_lt (by omega), hw, hb]
    simp only [decide_eq_decide]; omega
  simp only [skip, addi, select, cmpi, broadcast, IntOp.addi, IntOp.cmpi, lanes_apply, hsle, Scalar.select]
  rw [BitVec.toNat_add, hw]
  by_cases h : m ≤ n + lane x <;> simp only [h, decide_true, decide_false, if_true, if_false] <;> simp <;> omega

/-- The column `(lane + o) mod 5`, computed so as to be right for a negative number too. -/
def modFive (o : BitVec 32) : IVec S16 32 :=
  let d : BitVec 32 := Scalar.select (Scalar.cmpi .eq 5#32 0#32) 1#32 5#32
  let r := remsi (addi lanes (broadcast S16 o)) (broadcast S16 d)
  select (andi (xori (cmpi .slt r (broadcast S16 0#32))
      (broadcastTo S16 (broadcast S16 (Scalar.cmpi .slt d 0#32)))) (cmpi .ne r (broadcast S16 0#32)))
    (addi r (broadcast S16 d)) r

theorem modFive_apply (p : Fin 5) (x : S16.Idx) :
    modFive (BitVec.ofNat 32 (16 * p.val)) x = BitVec.ofNat 32 ((lane x + 16 * p.val) % 5) := by
  have h : ∀ (p : Fin 5) (l : Fin 16), modFive (BitVec.ofNat 32 (16 * p.val)) (Shape.ofLane (d := ![16]) l) = BitVec.ofNat 32 ((l.val + 16 * p.val) % 5) := by
    decide +kernel
  rw [lane_ext x]; exact h p ⟨lane x, lane_lt x⟩

/-- The third number's choice by the column vector `c`. -/
def relVec (c : IVec S16 32) (s o : Vec F S16 .f32) : Vec F S16 .f32 :=
  select (cmpi .eq c (broadcast S16 0#32)) s
    (select (ori (cmpi .eq c (broadcast S16 1#32)) (cmpi .eq c (broadcast S16 2#32))) (minimumf o s : FVec F S16 .f32) (maximumf o s : FVec F S16 .f32))

theorem relVec_apply (p : Fin 5) (s o : Vec F S16 .f32) (x : S16.Idx) :
    relVec (modFive (BitVec.ofNat 32 (16 * p.val))) s o x = relOf ((lane x + 16 * p.val) % 5) (s x) (o x) := by
  have h : ∀ c : Fin 5, ∀ s o : F .f32,
      Scalar.select (IntOp.cmpi .eq (BitVec.ofNat 32 c.val) 0#32) s
        (Scalar.select (IntOp.ori (IntOp.cmpi .eq (BitVec.ofNat 32 c.val) 1#32) (IntOp.cmpi .eq (BitVec.ofNat 32 c.val) 2#32))
          (FloatOps.minimumf o s) (FloatOps.maximumf o s)) = relOf c.val s o := by
    intro c s o
    match c with
    | 0 => rfl
    | 1 => rfl
    | 2 => rfl
    | 3 => rfl
    | 4 => rfl
  have := h ⟨(lane x + 16 * p.val) % 5, Nat.mod_lt _ (by omega)⟩ (s x) (o x)
  simp only [relVec, select, cmpi, ori, broadcast, modFive_apply, minimumf, maximumf]
  exact this

end Cert.Pairs

end
-- ==== Proof.Pieces.lean ====
/- The kernel's inner loops, written once for both groups of rows. A PIECE makes sixteen numbers of
   the three box arrays, a PAIR PIECE sixteen entries of the six others; a row is 32 trips of five
   pieces and 32 pair pieces. The printed loop bodies are these, by unfolding. -/
module

public import proofs.«01_k».proof.Proof.Spec
public import proofs.«01_k».proof.Proof.Gen.KernelIdeal.Skeleton

@[expose] public section

noncomputable section

namespace Cert.Pairs

open Idealize.ShloMosaic Idealize.SL.Sem Cert.KernelIdeal Cert.KernelIdeal.Gen

variable {F : FTy → Type} [FloatOps F]

/-- A vector subcore's programs. -/
abbrev TileProg (F : FTy → Type) (L : grid0.Coords) (α : Type) : Type 1 :=
  Prog (TpuEff nD τ sig (Elt F) Λ₀ (.scVector ((L 0).castLE hcore0) ((L 1).castLE hsub0))) α

/-- A subcore's scratch: the three tables it fetches, and the nine blocks it makes. -/
abbrev detV : Memref sig .scVector .vmem S2576 .f32 := Memref.whole cc0_scratch0
abbrev labV : Memref sig .scVector .vmem S528 .i32 := Memref.whole cc0_scratch1
abbrev scoV : Memref sig .scVector .vmem S528 .f32 := Memref.whole cc0_scratch2
abbrev sbjV : Memref sig .scVector .vmem S20448 .f32 := Memref.whole cc0_scratch3
abbrev objV : Memref sig .scVector .vmem S20448 .f32 := Memref.whole cc0_scratch4
abbrev relV : Memref sig .scVector .vmem S20448 .f32 := Memref.whole cc0_scratch5
abbrev slabV : Memref sig .scVector .vmem S4096 .i32 := Memref.whole cc0_scratch6
abbrev olabV : Memref sig .scVector .vmem S4096 .i32 := Memref.whole cc0_scratch7
abbrev sscoV : Memref sig .scVector .vmem S4096 .f32 := Memref.whole cc0_scratch8
abbrev oscoV : Memref sig .scVector .vmem S4096 .f32 := Memref.whole cc0_scratch9
abbrev sindV : Memref sig .scVector .vmem S4096 .i32 := Memref.whole cc0_scratch10
abbrev oindV : Memref sig .scVector .vmem S4096 .i32 := Memref.whole cc0_scratch11

/-- Sixteen elements of a block of `N`, from `off`. -/
abbrev part16 {N : ℕ} (off : Fin 1 → ℕ) (h : ∀ a, off a + S16.size a ≤ (⟨1, ![N]⟩ : Shape).size a) : Rect ⟨1, ![N]⟩ :=
  Rect.unit (s := ⟨1, ![N]⟩) off S16.size h

variable (L : grid0.Coords)

/-- Overwrite sixteen elements of a block (the kernel reads them first, and drops what it read). -/
def put {N : ℕ} {e : EltTy} (M : Memref sig .scVector .vmem ⟨1, ![N]⟩ e) (he : e.bits = 32) (off : Fin 1 → ℕ)
    (h : ∀ a, off a + S16.size a ≤ (⟨1, ![N]⟩ : Shape).size a) (w : Vec F S16 e) : TileProg F L PUnit := do
  let _ ← Prog.lift (.load M (part16 off h).toLoadRect (View.loadsAt_vmem h_S16))
  Prog.lift (.store M (part16 off h) w Finset.univ (View.stores_vmem_bits_univ h_S16 he) (.inl rfl))

/-- The table's entries at sixteen positions, checked to be in range. -/
def pick (v : IVec S16 32) : TileProg F L (Vec F S16 .f32) := do
  have h : k0_chk1 v := (← Prog.lift (TpuEff.assume (k0_chk1 v) (k0_chk1.dec v))).down
  SparseCore.vectorLoadIdx detV ![v] (k0_idx1_inb v h) (View.loads_vmem h_S2576)

/-- Sixteen numbers of the three arrays of boxes: `v` the objects' positions, `c` the columns. -/
def piece (v : IVec S16 32) (c : IVec S16 32) (s : Vec F S16 .f32) (off : Fin 1 → ℕ) (h : ∀ a, off a + S16.size a ≤ S20448.size a) :
    TileProg F L PUnit := do
  let o ← pick L v
  put L objV rfl off h o
  put L sbjV rfl off h s
  put L relV rfl off h (relVec c s o)

/-- Five pieces: eighty numbers. -/
def trip (b : IVec S16 32) (s : Fin 5 → Vec F S16 .f32) (t : Fin k0_t1_loop.trips) (u : Fin k0_t2_loop.trips) : TileProg F L (BitVec 32) := do
  let st : BitVec 32 := Scalar.muli (Scf.iv 0#32 1#32 u) 80#32
  piece L (skip (Scalar.addi st 0#32) b 5#32) (modFive 0#32) (s 0) (k0_off1 t u) (k0_off1_inb t u)
  piece L (skip (Scalar.addi st 16#32) b 5#32) (modFive 16#32) (s 1) (k0_off2 t u) (k0_off2_inb t u)
  piece L (skip (Scalar.addi st 32#32) b 5#32) (modFive 32#32) (s 2) (k0_off3 t u) (k0_off3_inb t u)
  piece L (skip (Scalar.addi st 48#32) b 5#32) (modFive 48#32) (s 3) (k0_off4 t u) (k0_off4_inb t u)
  piece L (skip (Scalar.addi st 64#32) b 5#32) (modFive 64#32) (s 4) (k0_off5 t u) (k0_off5_inb t u)
  pure 0#32

/-- Sixteen entries of the six arrays of pair entries: `v` the objects, `r` the subject. -/
def pairPiece (v r : IVec S16 32) (l : Vec F S16 .i32) (c : Vec F S16 .f32) (off : Fin 1 → ℕ) (h : ∀ a, off a + S16.size a ≤ S4096.size a) :
    TileProg F L (BitVec 32) := do
  have hv : k0_chk12 v := (← Prog.lift (TpuEff.assume (k0_chk12 v) (k0_chk12.dec v))).down
  let ol ← SparseCore.vectorLoadIdx labV ![v] (k0_idx13_inb v hv) (View.loads_vmem h_S528)
  put L olabV rfl off h ol
  let os ← SparseCore.vectorLoadIdx scoV ![v] (k0_idx14_inb v hv) (View.loads_vmem h_S528)
  put L oscoV rfl off h os
  put L oindV rfl off h v
  put L sindV rfl off h r
  put L slabV rfl off h l
  put L sscoV rfl off h c
  pure 0#32

/-- Row `base + t`. -/
def row (base : BitVec 32) (t : Fin k0_t1_loop.trips) : TileProg F L (BitVec 32) := do
  let r : IVec S16 32 := broadcast S16 (Scalar.addi base (Scf.iv 0#32 1#32 t))
  let b : IVec S16 32 := broadcast S16 (Scalar.muli 5#32 (Scalar.addi base (Scf.iv 0#32 1#32 t)))
  have hr : k0_chk6 r := (← Prog.lift (TpuEff.assume (k0_chk6 r) (k0_chk6.dec r))).down
  let s0 ← pick L (addi b (modFive 0#32))
  let s1 ← pick L (addi b (modFive 16#32))
  let s2 ← pick L (addi b (modFive 32#32))
  let s3 ← pick L (addi b (modFive 48#32))
  let s4 ← pick L (addi b (modFive 64#32))
  let l ← SparseCore.vectorLoadIdx labV ![r] (k0_idx6_inb r hr) (View.loads_vmem h_S528)
  let c ← SparseCore.vectorLoadIdx scoV ![r] (k0_idx7_inb r hr) (View.loads_vmem h_S528)
  let _ ← Scf.Loop.for k0_t2_loop k0_t2_ok 0#32 fun u _ => trip L b ![s0, s1, s2, s3, s4] t u
  let _ ← Scf.Loop.for k0_t3_loop k0_t3_ok 0#32 fun u _ =>
    pairPiece L (skip (Scalar.muli (Scf.iv 0#32 1#32 u) 16#32) r 1#32) r l c (k0_off6 t u) (k0_off6_inb t u)
  pure 0#32

/-- Send a block of boxes, the 20440 made numbers of it, to its place in the whole array, and wait. -/
def sendRows (M : Memref sig .scVector .vmem S20448 .f32) (O : Memref sig .scVector .hbm S1308160 .f32) (c : DmaSems sig S_) (r : Fin 2) :
    TileProg F L PUnit := do
  let src := M.slice (Rect.unit (s := S20448) ![0] S20440.size inb_S20448_S20440_0) (fun _ => rfl)
  let dst := O.slice (Rect.unit (s := S1308160) (k0_off7 L (BitVec.ofNat 32 r.val)) S20440.size (k0_off7_inb L r)) (fun _ => rfl)
  Prog.lift (.enqueueDma src (.here dst) (.dma c.sem) (View.wordExact_bits rfl) (View.wordExact_bits rfl) ⟨Or.inl rfl, trivial⟩)
  Prog.lift (.waitDma2 c.sem src dst (View.wordExact_bits rfl) (View.wordExact_bits rfl))

/-- Send a block of pair entries, the 4088 made ones of it. -/
def sendPairs {e : EltTy} (he : e.bits = 32) (M : Memref sig .scVector .vmem S4096 e) (O : Memref sig .scVector .hbm S261632 e) (c : DmaSems sig S_)
    (r : Fin 2) : TileProg F L PUnit := do
  let src := M.slice (Rect.unit (s := S4096) ![0] S4088.size inb_S4096_S4088_0) (fun _ => rfl)
  let dst := O.slice (Rect.unit (s := S261632) (k0_off8 L (BitVec.ofNat 32 r.val)) S4088.size (k0_off8_inb L r)) (fun _ => rfl)
  Prog.lift (.enqueueDma src (.here dst) (.dma c.sem) (View.wordExact_bits he) (View.wordExact_bits he) ⟨Or.inl rfl, trivial⟩)
  Prog.lift (.waitDma2 c.sem src dst (View.wordExact_bits he) (View.wordExact_bits he))

/-- The eight rows of a group. -/
def rows (base : BitVec 32) : TileProg F L (BitVec 32) := Scf.Loop.for k0_t1_loop k0_t1_ok 0#32 fun t _ => row L base t

/-- The nine blocks a group sends, through cells `c`. -/
def send (r : Fin 2) (c : Fin 9 → DmaSems sig S_) : TileProg F L PUnit := do
  sendRows L sbjV (Memref.whole main_v1_0_scv) (c 0) r
  sendRows L objV (Memref.whole main_v1_1_scv) (c 1) r
  sendRows L relV (Memref.whole main_v1_2_scv) (c 2) r
  sendPairs L rfl slabV (Memref.whole main_v1_3_scv) (c 3) r
  sendPairs L rfl olabV (Memref.whole main_v1_4_scv) (c 4) r
  sendPairs L rfl sscoV (Memref.whole main_v1_5_scv) (c 5) r
  sendPairs L rfl oscoV (Memref.whole main_v1_6_scv) (c 6) r
  sendPairs L rfl sindV (Memref.whole main_v1_7_scv) (c 7) r
  sendPairs L rfl oindV (Memref.whole main_v1_8_scv) (c 8) r

/-- The subcore's number. -/
abbrev tileWord : BitVec 32 := Scalar.addi (Scalar.muli (BitVec.ofNat 32 (L 1).val) 2#32) (BitVec.ofNat 32 (L 0).val)

abbrev detFetch : Memref sig .scVector .vmem S2560 .f32 :=
  detV.slice (Rect.unit (s := S2576) ![0] S2560.size inb_S2576_S2560_0) (fun _ => rfl)
abbrev labFetch : Memref sig .scVector .vmem S512 .i32 :=
  labV.slice (Rect.unit (s := S528) ![0] S512.size inb_S528_S512_0) (fun _ => rfl)
abbrev scoFetch : Memref sig .scVector .vmem S512 .f32 :=
  scoV.slice (Rect.unit (s := S528) ![0] S512.size inb_S528_S512_0) (fun _ => rfl)
abbrev roisV : Memref sig .scVector .hbm S2560 .f32 := Memref.whole main_v0_scv
abbrev labelsV : Memref sig .scVector .hbm S512 .i32 := Memref.whole main_arg1_scv
abbrev scoresV : Memref sig .scVector .hbm S512 .f32 := Memref.whole main_arg2_scv

/-- The whole task of one vector subcore. -/
def task : TileProg F L PUnit := do
  Prog.lift (.enqueueDma roisV (.here detFetch) (.dma cc0_scoped0.sem) (Memref.isWhole_whole _).wordExact (View.wordExact_bits rfl) ⟨Or.inl rfl, trivial⟩)
  Prog.lift (.waitDma2 cc0_scoped0.sem roisV detFetch (Memref.isWhole_whole _).wordExact (View.wordExact_bits rfl))
  Prog.lift (.enqueueDma labelsV (.here labFetch) (.dma cc0_scoped1.sem) (Memref.isWhole_whole _).wordExact (View.wordExact_bits rfl) ⟨Or.inl rfl, trivial⟩)
  Prog.lift (.waitDma2 cc0_scoped1.sem labelsV labFetch (Memref.isWhole_whole _).wordExact (View.wordExact_bits rfl))
  Prog.lift (.enqueueDma scoresV (.here scoFetch) (.dma cc0_scoped2.sem) (Memref.isWhole_whole _).wordExact (View.wordExact_bits rfl) ⟨Or.inl rfl, trivial⟩)
  Prog.lift (.waitDma2 cc0_scoped2.sem scoresV scoFetch (Memref.isWhole_whole _).wordExact (View.wordExact_bits rfl))
  let _ ← rows L (Scalar.addi (Scalar.muli (tileWord L) 16#32) 0#32)
  send L 0 ![cc0_scoped3, cc0_scoped4, cc0_scoped5, cc0_scoped6, cc0_scoped7, cc0_scoped8, cc0_scoped9, cc0_scoped10, cc0_scoped11]
  let _ ← rows L (Scalar.addi (Scalar.muli (tileWord L) 16#32) 8#32)
  send L 1 ![cc0_scoped12, cc0_scoped13, cc0_scoped14, cc0_scoped15, cc0_scoped16, cc0_scoped17, cc0_scoped18, cc0_scoped19, cc0_scoped20]

set_option maxRecDepth 65536 in
set_option maxHeartbeats 4000000 in
/-- The printed kernel, at its buffers and semaphores, is the task. -/
theorem cc0_k_eq_task : cc0_k (F := F) L
      (Memref.whole main_v0_scv) (Memref.isWhole_whole _) (Memref.whole main_arg1_scv) (Memref.isWhole_whole _)
      (Memref.whole main_arg2_scv) (Memref.isWhole_whole _) (Memref.whole main_v1_0_scv) (Memref.isWhole_whole _)
      (Memref.whole main_v1_1_scv) (Memref.isWhole_whole _) (Memref.whole main_v1_2_scv) (Memref.isWhole_whole _)
      (Memref.whole main_v1_3_scv) (Memref.isWhole_whole _) (Memref.whole main_v1_4_scv) (Memref.isWhole_whole _)
      (Memref.whole main_v1_5_scv) (Memref.isWhole_whole _) (Memref.whole main_v1_6_scv) (Memref.isWhole_whole _)
      (Memref.whole main_v1_7_scv) (Memref.isWhole_whole _) (Memref.whole main_v1_8_scv) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) (Memref.whole cc0_scratch11) (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 = task L := by
  rw [cc0_k_eq_skeleton]
  simp only [cc0_k_skel, k0_part5_eq_skeleton, k0_part6_eq_skeleton, k0_part7_eq_skeleton, k0_part8_eq_skeleton, k0_part9_eq_skeleton,
    k0_part10_eq_skeleton, k0_part11_eq_skeleton, k0_part12_eq_skeleton, k0_part5_skel, k0_part6_skel, k0_part7_skel, k0_part8_skel, k0_part9_skel,
    k0_part10_skel, k0_part11_skel, k0_part12_skel, task, send, sendRows, sendPairs, Prog.lift, Prog.bind_op, Prog.bind_ret, Prog.pure_eq_ret,
    bind_assoc]
  rfl

end Cert.Pairs

end
-- ==== Proof.Base.lean ====
/- The logic's set-up: the program as the launch theorem sees it, the resources a proof about it
   speaks of, and the buffers' names. -/
module

public import proofs.«01_k».proof.Proof.Pieces
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Writes
public import Idealize.ShloMosaic.Lib.Tactic

@[expose] public section

noncomputable section

namespace Cert.Pairs

open Idealize.ShloMosaic Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds, and the transfers' counters. -/
abbrev UH : Type := URounds (GSem nD τ sig) ℕ
abbrev UU : Type := UH × Counters

/-- What a proof about the machine owns. -/
abbrev MM (F : FTy → Type) : Type := MT nD τ sig (HIx 1) (Elt F) ℕ UU ℕ

abbrev EH : Emb UH (MM F) := embL

/-- A subcore's SparseCore and its place there, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A task's program runs to `Q`. -/
abbrev Runs [FloatOps F] (d : Dev nD) (L : grid0.Coords) {α : Type} (p : TileProg F L α) (Q : α → sProp (MM F)) : sProp (MM F) :=
  wp frame (wpE (defs₀ (F := F)) 𝒱₀ (thr d L) none) Set.univ p Q

end Cert.Pairs

end
-- ==== Proof.Hold.lean ====
/- A block being filled from its start: how far it agrees with what it shall hold, and the rules of
   the pieces by it. -/
module

public import proofs.«01_k».proof.Proof.Base

@[expose] public section

noncomputable section

namespace Cert.Pairs

open Idealize.ShloMosaic Cert.KernelIdeal Cert.KernelIdeal.Gen
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

theorem runs_bind {α β : Type} (p : TileProg F L α) (k : α → TileProg F L β) (Q : β → sProp (MM F)) :
    Runs d L (p >>= k) Q = Runs d L p fun a => Runs d L (k a) Q := wp_bind ..

theorem runs_pure {α : Type} (a : α) (Q : α → sProp (MM F)) : Q a ⊢ Runs d L (pure a) Q := by
  rw [Prog.pure_eq_ret]; unfold Runs; rw [wp_ret]; iintro H; imodintro; iexact H

theorem runs_assume {P : Prop} {D : Decidable P} {α : Type} (h : P) (k : PLift P → TileProg F L α) (Q : α → sProp (MM F)) :
    Runs d L (Prog.lift (.assume P D) >>= k) Q = Runs d L (k ⟨h⟩) Q := wp_assume_of 𝒱₀ (thr d L) none Set.univ h

/-- The buffer's first `n` elements are `G`'s. -/
def Holds {N : ℕ} {e : EltTy} (M : Memref sig .scVector .vmem ⟨1, ![N]⟩ e) (G : ℕ → Elt F e) (n : ℕ) : sProp (MM F) :=
  iprop(∃ f : Buf (Elt F) (M.view.loc (thr d L)),
    ⌜∀ q : (⟨1, ![N]⟩ : Shape).Idx, (q 0).val < n → M.view.read (Elt F) f q = G (q 0).val⌝ ∗ M.view.loc (thr d L) ↦{fullShare} f)

/-- Sixteen elements written at `o` carry the agreement from `n` to `n'`, when the write leaves no gap
    and is right where it counts. -/
theorem wp_put {N : ℕ} {e : EltTy} (M : Memref sig .scVector .vmem ⟨1, ![N]⟩ e) (he : e.bits = 32) (off : Fin 1 → ℕ)
    (h : ∀ a, off a + S16.size a ≤ (⟨1, ![N]⟩ : Shape).size a) (w : Vec F S16 e) (G : ℕ → Elt F e) (o n n' : ℕ)
    (ho : off 0 = o) (hn : o ≤ n) (hn' : n' ≤ o + 16) (hw : ∀ x : S16.Idx, o + lane x < n' → w x = G (o + lane x))
    (Q : PUnit → sProp (MM F)) :
    iprop(Holds d L M G n ∗ (Holds d L M G n' -∗ Q ⟨⟩)) ⊢ Runs d L (put L M he off h w) Q := by
  unfold put Holds
  simp only [Prog.lift, Prog.bind_op, Prog.bind_ret]
  iintro ⟨⟨%f, %hf, H⟩, HQ⟩
  iapply (wp_load 𝒱₀ (thr d L) none Set.univ (m := M) (S := Finset.univ) (Finset.subset_univ _)) $$ H
  iintro H
  ihave H := (Entails.of_eq (show (M.view.loc (thr d L) ↦{fullShare} f : sProp (MM F))
      = ((M.access (part16 off h)).loc (thr d L) ↦{fullShare} f) from rfl)) $$ H
  iapply (wp_store 𝒱₀ (thr d L) none Set.univ (m := M) (r := part16 off h) (S := Finset.univ) (Finset.subset_univ _)) $$ H
  iintro H
  rw [wp_ret]
  imodintro
  iapply HQ
  iexists _
  isplitr
  rotate_left
  · iexact H
  ipureintro
  intro q hq
  change M.view.read (Elt F) (M.view.writes (Elt F) f [⟨part16 off h, w⟩]) q = _
  by_cases hin : o ≤ (q 0).val
  · have hx : (q 0).val - o < 16 := by omega
    rw [View.read_writes_cons_hit_of_coords M.view f (part16 off h) w [] (Shape.ofLane (d := ![16]) (⟨(q 0).val - o, hx⟩ : Fin 16)) q]
    · rw [hw]
      · congr 1; show o + ((q 0).val - o) = _; omega
      · show o + ((q 0).val - o) < n'; omega
    · intro a
      obtain rfl : a = 0 := Subsingleton.elim _ _
      show (q 0).val = off 0 + 1 * ((q 0).val - o)
      omega
  · rw [View.read_writes_cons_miss_of_axis M.view f ⟨part16 off h, w⟩ [] q 0 o 16 ho rfl rfl (Or.inl (by omega))]
    exact hf q (by omega)

/-- Sixteen entries read at the positions `v`: right wherever the buffer is. -/
theorem wp_gather {N : ℕ} {e : EltTy} (M : Memref sig .scVector .vmem ⟨1, ![N]⟩ e) (v : IVec S16 32)
    (h : ∀ a x, ((![v] : Fin 1 → IVec S16 32) a x).toNat < (⟨1, ![N]⟩ : Shape).size a) (hl : M.view.Loads) (G : ℕ → Elt F e) (n : ℕ)
    (Q : Vec F S16 e → sProp (MM F)) :
    iprop(Holds d L M G n ∗ (∀ w, ⌜∀ x, (v x).toNat < n → w x = G (v x).toNat⌝ -∗ Holds d L M G n -∗ Q w))
      ⊢ Runs d L (SparseCore.vectorLoadIdx M ![v] h hl) Q := by
  refine BIBase.Entails.trans ?_ (Entails.of_eq (congrArg (fun p => Runs d L p Q) (bind_pure _)))
  unfold Holds
  iintro ⟨⟨%f, %hf, H⟩, HQ⟩
  ihave H := (Entails.of_eq (show (M.view.loc (thr d L) ↦{fullShare} f : sProp (MM F))
      = ((M.access (.whole ⟨1, ![N]⟩)).loc (thr d L) ↦{fullShare} f) from rfl)) $$ H
  iapply (SparseCore.wp_vectorLoadIdx 𝒱₀ (thr d L) none Set.univ (S := Finset.univ) (Finset.subset_univ _)) $$ H
  iintro H
  rw [Prog.pure_eq_ret, wp_ret]
  imodintro
  iapply HQ $$ %_ [] [H]
  · ipureintro
    intro x hx
    have hr : ∀ y, (M.access (.whole ⟨1, ![N]⟩)).read (Elt F) f y = M.view.read (Elt F) f y := by
      intro y
      show M.view.read (Elt F) f ((Rect.whole ⟨1, ![N]⟩).emb y) = _
      congr 1
      funext a
      apply Fin.ext
      show 0 + 1 * (y a).val = _
      omega
    exact (hr _).trans (hf _ hx)
  · iexists f
    isplitr
    · ipureintro; exact hf
    · iexact H

/-- A counted loop by an invariant that does not mention what the trips hand on. -/
theorem wp_loop (l : Scf.Loop 32) (hok : l.OK) {T : ℕ} (hT : l.trips = T) (init : BitVec 32) (body : Fin l.trips → BitVec 32 → TileProg F L (BitVec 32))
    (I : ℕ → sProp (MM F)) (hbody : ∀ (k : Fin l.trips) (a : BitVec 32), I k.val ⊢ Runs d L (body k a) fun _ => I (k.val + 1))
    (Q : BitVec 32 → sProp (MM F)) :
    iprop(I 0 ∗ (∀ a, I T -∗ Q a)) ⊢ Runs d L (Scf.Loop.for l hok init body) Q := by
  subst hT
  exact Scf.wp_for _ _ _ l.lb l.ub l.st hok init body (fun k _ => I k) hbody

end Cert.Pairs

end
-- ==== Proof.Body.lean ====
/- The pieces, the rows and the groups of rows, by what they leave in the nine blocks. A group's first
   row is `i₀`; its block of boxes shall hold the numbers from `2555 · i₀` on, its block of pair entries
   the entries from `511 · i₀` on. -/
module

public import proofs.«01_k».proof.Proof.Hold

@[expose] public section

noncomputable section

namespace Cert.Pairs

open Idealize.ShloMosaic Cert.KernelIdeal Cert.KernelIdeal.Gen
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)
variable (A : ℕ → Elt F .f32) (B : ℕ → Elt F .i32) (C : ℕ → Elt F .f32)

/-- The three fetched tables. -/
abbrev Det : sProp (MM F) := Holds d L detV A 2560
abbrev Tables : sProp (MM F) := iprop(Det d L A ∗ Holds d L labV B 512 ∗ Holds d L scoV C 512)

/-- The three blocks of boxes, made up to number `n`. -/
abbrev Boxes (i₀ n : ℕ) : sProp (MM F) :=
  iprop(Holds d L sbjV (fun q => sbjAt A (2555 * i₀ + q)) n ∗ Holds d L objV (fun q => objAt A (2555 * i₀ + q)) n
    ∗ Holds d L relV (fun q => relAt A (2555 * i₀ + q)) n)

/-- The six blocks of pair entries, made up to entry `n`. -/
abbrev Entries (i₀ n : ℕ) : sProp (MM F) :=
  iprop(Holds d L slabV (fun q => B (rowOf (511 * i₀ + q))) n ∗ Holds d L olabV (fun q => B (colOf (511 * i₀ + q))) n
    ∗ Holds d L sscoV (fun q => C (rowOf (511 * i₀ + q))) n ∗ Holds d L oscoV (fun q => C (colOf (511 * i₀ + q))) n
    ∗ Holds d L sindV (fun q => (BitVec.ofNat 32 (rowOf (511 * i₀ + q)) : Elt F .i32)) n
    ∗ Holds d L oindV (fun q => (BitVec.ofNat 32 (colOf (511 * i₀ + q)) : Elt F .i32)) n)

/-- The table of rois, read at sixteen positions. -/
theorem wp_pick (v : IVec S16 32) (hv : ∀ x, (v x).toNat < 2576) (Q : Vec F S16 .f32 → sProp (MM F)) :
    iprop(Det d L A ∗ (∀ w, ⌜∀ x, (v x).toNat < 2560 → w x = A (v x).toNat⌝ -∗ Det d L A -∗ Q w)) ⊢ Runs d L (pick L v) Q := by
  have hc : k0_chk1 v := by intro a x; obtain rfl : a = 0 := Subsingleton.elim _ _; exact hv x
  unfold pick
  rw [runs_assume d L hc]
  exact wp_gather d L detV v hc _ A 2560 Q

/-- Sixteen numbers of row `i = i₀ + t`, from its number `k` on. -/
theorem wp_piece (i₀ i t k : ℕ) (hi : i = i₀ + t) (hk : k ≤ 2544) (v c : IVec S16 32) (s : Vec F S16 .f32) (off : Fin 1 → ℕ)
    (h : ∀ a, off a + S16.size a ≤ S20448.size a) (hoff : off 0 = 2555 * t + k)
    (hv : ∀ x, (v x).toNat = k + lane x + if 5 * i ≤ k + lane x then 5 else 0)
    (hc : ∀ (o : Vec F S16 .f32) x, relVec c s o x = relOf ((k + lane x) % 5) (s x) (o x))
    (hs : ∀ x, s x = A (5 * i + (k + lane x) % 5)) (Q : PUnit → sProp (MM F)) :
    iprop((Det d L A ∗ Boxes d L A i₀ (min (2555 * t + k) (2555 * (t + 1))))
        ∗ ((Det d L A ∗ Boxes d L A i₀ (min (2555 * t + (k + 16)) (2555 * (t + 1)))) -∗ Q ⟨⟩))
      ⊢ Runs d L (piece L v c s off h) Q := by
  have hs' : ∀ x : S16.Idx, 2555 * t + k + lane x < min (2555 * t + (k + 16)) (2555 * (t + 1)) →
      s x = sbjAt A (2555 * i₀ + (2555 * t + k + lane x)) := by
    intro x hx
    rw [hs, sbjAt]; congr 1
    have : (2555 * i₀ + (2555 * t + k + lane x)) / 2555 = i := by omega
    omega
  have ho' : ∀ w : Vec F S16 .f32, (∀ x, (v x).toNat < 2560 → w x = A (v x).toNat) → ∀ x : S16.Idx,
      2555 * t + k + lane x < min (2555 * t + (k + 16)) (2555 * (t + 1)) → w x = objAt A (2555 * i₀ + (2555 * t + k + lane x)) := by
    intro w hw x hx
    have h1 : (2555 * i₀ + (2555 * t + k + lane x)) / 2555 = i := by omega
    have h2 : (2555 * i₀ + (2555 * t + k + lane x)) % 2555 = k + lane x := by omega
    rw [hw x (by rw [hv]; split <;> omega), objAt, h1, h2, hv]
  have hr' : ∀ w : Vec F S16 .f32, (∀ x, (v x).toNat < 2560 → w x = A (v x).toNat) → ∀ x : S16.Idx,
      2555 * t + k + lane x < min (2555 * t + (k + 16)) (2555 * (t + 1)) →
        relVec c s w x = relAt A (2555 * i₀ + (2555 * t + k + lane x)) := by
    intro w hw x hx
    rw [hc, hs' x hx, ho' w hw x hx, relAt]; congr 1; omega
  have hle : min (2555 * t + (k + 16)) (2555 * (t + 1)) ≤ 2555 * t + k + 16 := by omega
  have hge : 2555 * t + k ≤ min (2555 * t + k) (2555 * (t + 1)) := by omega
  unfold piece
  rw [runs_bind]
  iintro ⟨⟨HA, Hs, Ho, Hr⟩, HQ⟩
  iapply wp_pick d L A v (fun x => by rw [hv]; have := lane_lt x; split <;> omega)
  isplitl [HA]
  · iexact HA
  iintro %w %hw HA
  rw [runs_bind]
  iapply wp_put d L objV rfl off h w (fun q => objAt A (2555 * i₀ + q)) (2555 * t + k) _ _ hoff hge hle (ho' w hw)
  isplitl [Ho]
  · iexact Ho
  iintro Ho
  rw [runs_bind]
  iapply wp_put d L sbjV rfl off h s (fun q => sbjAt A (2555 * i₀ + q)) (2555 * t + k) _ _ hoff hge hle hs'
  isplitl [Hs]
  · iexact Hs
  iintro Hs
  iapply wp_put d L relV rfl off h (relVec c s w) (fun q => relAt A (2555 * i₀ + q)) (2555 * t + k) _ _ hoff hge hle (hr' w hw)
  isplitl [Hr]
  · iexact Hr
  iintro Hr
  iapply HQ
  isplitl [HA]
  · iexact HA
  isplitl [Hs]
  · iexact Hs
  isplitl [Ho]
  · iexact Ho
  iexact Hr

theorem loop_word {l : Scf.Loop 32} (u : Fin l.trips) (hu : u.val < 2 ^ 12) (m : ℕ) (hm : m < 2 ^ 12) :
    (Scalar.muli (Scf.iv 0#32 1#32 u.val) (BitVec.ofNat 32 m)).toNat = m * u.val := by
  have h1 : m * u.val < 2 ^ 12 * 2 ^ 12 := Nat.mul_lt_mul'' hm hu
  have h2 : (Scf.iv 0#32 1#32 u.val).toNat = u.val := by
    simp only [Scf.iv, BitVec.toNat_mul, BitVec.toNat_add, BitVec.toNat_ofNat]
    omega
  simp only [Scalar.muli, IntOp.muli, BitVec.toNat_mul, BitVec.toNat_ofNat, h2]
  rw [Nat.mod_eq_of_lt (a := m) (by omega), Nat.mul_comm u.val m]
  exact Nat.mod_eq_of_lt (by omega)

/-- Piece `p` of a trip. -/
theorem wp_part (p : Fin 5) (i₀ i t u : ℕ) (hi : i = i₀ + t) (hi' : i < 512) (hu : u < 32) (st : BitVec 32) (hst : st.toNat = 80 * u + 16 * p.val)
    (b : IVec S16 32) (hb : ∀ x, (b x).toNat = 5 * i) (s : Vec F S16 .f32) (hs : ∀ x, s x = A (5 * i + (lane x + 16 * p.val) % 5))
    (off : Fin 1 → ℕ) (h : ∀ a, off a + S16.size a ≤ S20448.size a) (hoff : off 0 = 2555 * t + (80 * u + 16 * p.val)) (Q : PUnit → sProp (MM F)) :
    iprop((Det d L A ∗ Boxes d L A i₀ (min (2555 * t + (80 * u + 16 * p.val)) (2555 * (t + 1))))
        ∗ ((Det d L A ∗ Boxes d L A i₀ (min (2555 * t + (80 * u + 16 * p.val + 16)) (2555 * (t + 1)))) -∗ Q ⟨⟩))
      ⊢ Runs d L (piece L (skip st b 5#32) (modFive (BitVec.ofNat 32 (16 * p.val))) s off h) Q := by
  have hp := p.isLt
  refine wp_piece d L A i₀ i t (80 * u + 16 * p.val) hi (by omega) _ _ s off h hoff ?_ ?_ ?_ Q
  · intro x
    exact skip_toNat hst (by omega) (by decide) (by omega) x (hb x)
  · intro o x
    rw [relVec_apply, show (lane x + 16 * p.val) % 5 = (80 * u + 16 * p.val + lane x) % 5 by omega]
  · intro x
    rw [hs, show (lane x + 16 * p.val) % 5 = (80 * u + 16 * p.val + lane x) % 5 by omega]

theorem add_word {a : BitVec 32} {n : ℕ} (ha : a.toNat = n) (hn : n < 2 ^ 20) (m : ℕ) (hm : m < 2 ^ 20) :
    (Scalar.addi a (BitVec.ofNat 32 m)).toNat = n + m := by
  simp only [Scalar.addi, IntOp.addi, BitVec.toNat_add, BitVec.toNat_ofNat, ha]
  omega

theorem wp_trip (i₀ i : ℕ) (t : Fin k0_t1_loop.trips) (u : Fin k0_t2_loop.trips) (hi : i = i₀ + t.val) (hi' : i < 512)
    (b : IVec S16 32) (hb : ∀ x, (b x).toNat = 5 * i) (s : Fin 5 → Vec F S16 .f32)
    (hs : ∀ (p : Fin 5) x, s p x = A (5 * i + (lane x + 16 * p.val) % 5)) :
    iprop(Det d L A ∗ Boxes d L A i₀ (min (2555 * t.val + 80 * u.val) (2555 * (t.val + 1))))
      ⊢ Runs d L (trip L b s t u) fun _ => iprop(Det d L A ∗ Boxes d L A i₀ (min (2555 * t.val + 80 * (u.val + 1)) (2555 * (t.val + 1)))) := by
  have hu : u.val < 32 := lt_of_lt_of_eq u.isLt (by decide)
  have hw : (Scalar.muli (Scf.iv 0#32 1#32 u.val) 80#32).toNat = 80 * u.val := loop_word u (by omega) 80 (by omega)
  have part := fun (p : Fin 5) (off : Fin 1 → ℕ) h hoff Q => wp_part d L A p i₀ i t.val u.val hi hi' hu
    _ (add_word hw (by omega) (16 * p.val) (by omega)) b hb (s p) (hs p) off h hoff Q
  unfold trip
  rw [runs_bind]
  iintro H
  iapply part 0 (k0_off1 t u) (k0_off1_inb t u) (by rw [k0_off1_eq]; rfl) _
  isplitl [H]
  · iexact H
  iintro H
  rw [runs_bind]
  iapply part 1 (k0_off2 t u) (k0_off2_inb t u) (by rw [k0_off2_eq]; show _ = 2555 * t.val + (80 * u.val + 16 * 1); simp; omega) _
  isplitl [H]
  · iexact H
  iintro H
  rw [runs_bind]
  iapply part 2 (k0_off3 t u) (k0_off3_inb t u) (by rw [k0_off3_eq]; show _ = 2555 * t.val + (80 * u.val + 16 * 2); simp; omega) _
  isplitl [H]
  · iexact H
  iintro H
  rw [runs_bind]
  iapply part 3 (k0_off4 t u) (k0_off4_inb t u) (by rw [k0_off4_eq]; show _ = 2555 * t.val + (80 * u.val + 16 * 3); simp; omega) _
  isplitl [H]
  · iexact H
  iintro H
  rw [runs_bind]
  iapply part 4 (k0_off5 t u) (k0_off5_inb t u) (by rw [k0_off5_eq]; show _ = 2555 * t.val + (80 * u.val + 16 * 4); simp; omega) _
  isplitl [H]
  · iexact H
  iintro H
  iapply runs_pure d L 0#32 _
  iexact H

end Cert.Pairs

end
-- ==== Proof.Rows.lean ====
/- The rows of a group, by what they leave in the nine blocks. -/
module

public import proofs.«01_k».proof.Proof.Body

@[expose] public section

noncomputable section

namespace Cert.Pairs

open Idealize.ShloMosaic Cert.KernelIdeal Cert.KernelIdeal.Gen
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)
variable (A : ℕ → Elt F .f32) (B : ℕ → Elt F .i32) (C : ℕ → Elt F .f32)

/-- Sixteen pair entries of row `i = i₀ + t`, from its entry `16 · u` on. -/
theorem wp_pairPiece (i₀ i t u : ℕ) (hi : i = i₀ + t) (hi' : i < 512) (hu : u < 32) (v r : IVec S16 32) (l : Vec F S16 .i32) (c : Vec F S16 .f32)
    (off : Fin 1 → ℕ) (h : ∀ a, off a + S16.size a ≤ S4096.size a) (hoff : off 0 = 511 * t + 16 * u)
    (hv : ∀ x, (v x).toNat = 16 * u + lane x + if i ≤ 16 * u + lane x then 1 else 0) (hr : ∀ x, r x = BitVec.ofNat 32 i)
    (hl : ∀ x, l x = B i) (hc : ∀ x, c x = C i) :
    iprop((Holds d L labV B 512 ∗ Holds d L scoV C 512) ∗ Entries d L B C i₀ (min (511 * t + 16 * u) (511 * (t + 1))))
      ⊢ Runs d L (pairPiece L v r l c off h) fun _ =>
        iprop((Holds d L labV B 512 ∗ Holds d L scoV C 512) ∗ Entries d L B C i₀ (min (511 * t + 16 * (u + 1)) (511 * (t + 1)))) := by
  have hle : min (511 * t + 16 * (u + 1)) (511 * (t + 1)) ≤ 511 * t + 16 * u + 16 := by omega
  have hge : 511 * t + 16 * u ≤ min (511 * t + 16 * u) (511 * (t + 1)) := by omega
  have hrow : ∀ x : S16.Idx, 511 * t + 16 * u + lane x < min (511 * t + 16 * (u + 1)) (511 * (t + 1)) →
      i = rowOf (511 * i₀ + (511 * t + 16 * u + lane x)) := by
    intro x hx; unfold rowOf; omega
  have hcol : ∀ x : S16.Idx, 511 * t + 16 * u + lane x < min (511 * t + 16 * (u + 1)) (511 * (t + 1)) →
      (v x).toNat = colOf (511 * i₀ + (511 * t + 16 * u + lane x)) := by
    intro x hx
    have h1 := hrow x hx
    unfold rowOf at h1
    have h2 : (511 * i₀ + (511 * t + 16 * u + lane x)) % 511 = 16 * u + lane x := by omega
    rw [hv, colOf, ← h1, h2]
  have hlook : ∀ {α : Type} (G : ℕ → α) (w : S16.Idx → α), (∀ x, (v x).toNat < 512 → w x = G (v x).toNat) → ∀ x : S16.Idx,
      511 * t + 16 * u + lane x < min (511 * t + 16 * (u + 1)) (511 * (t + 1)) →
        w x = G (colOf (511 * i₀ + (511 * t + 16 * u + lane x))) := by
    intro α G w hw x hx
    have h1 := hcol x hx
    rw [hw x (by rw [h1]; exact colOf_lt _), h1]
  have inb : ∀ (a : Fin 1) (x : S16.Idx), ((![v] : Fin 1 → IVec S16 32) a x).toNat < 528 := by
    intro a x; obtain rfl : a = 0 := Subsingleton.elim _ _
    show (v x).toNat < 528
    have := lane_lt x
    rw [hv]; split <;> omega
  have chk : k0_chk12 v := ⟨fun a x => by obtain rfl : a = 0 := Subsingleton.elim _ _; exact inb 0 x,
    fun a x => by obtain rfl : a = 0 := Subsingleton.elim _ _; exact inb 0 x⟩
  unfold pairPiece
  rw [runs_assume d L chk, runs_bind]
  iintro ⟨⟨HB, HC⟩, Hsl, Hol, Hss, Hos, Hsi, Hoi⟩
  iapply wp_gather d L labV v _ _ B 512
  isplitl [HB]
  · iexact HB
  iintro %ol %hol HB
  rw [runs_bind]
  iapply wp_put d L olabV rfl off h ol (fun q => B (colOf (511 * i₀ + q))) (511 * t + 16 * u) _ _ hoff hge hle (hlook B ol hol)
  isplitl [Hol]
  · iexact Hol
  iintro Hol
  rw [runs_bind]
  iapply wp_gather d L scoV v _ _ C 512
  isplitl [HC]
  · iexact HC
  iintro %os %hos HC
  rw [runs_bind]
  iapply wp_put d L oscoV rfl off h os (fun q => C (colOf (511 * i₀ + q))) (511 * t + 16 * u) _ _ hoff hge hle (hlook C os hos)
  isplitl [Hos]
  · iexact Hos
  iintro Hos
  rw [runs_bind]
  iapply wp_put d L oindV rfl off h v (fun q => (BitVec.ofNat 32 (colOf (511 * i₀ + q)) : Elt F .i32)) (511 * t + 16 * u) _ _ hoff hge hle
    (fun x hx => by show v x = BitVec.ofNat 32 _; rw [← hcol x hx, BitVec.ofNat_toNat]; simp)
  isplitl [Hoi]
  · iexact Hoi
  iintro Hoi
  rw [runs_bind]
  iapply wp_put d L sindV rfl off h r (fun q => (BitVec.ofNat 32 (rowOf (511 * i₀ + q)) : Elt F .i32)) (511 * t + 16 * u) _ _ hoff hge hle
    (fun x hx => by rw [hr x]; exact congrArg (BitVec.ofNat 32) (hrow x hx))
  isplitl [Hsi]
  · iexact Hsi
  iintro Hsi
  rw [runs_bind]
  iapply wp_put d L slabV rfl off h l (fun q => B (rowOf (511 * i₀ + q))) (511 * t + 16 * u) _ _ hoff hge hle
    (fun x hx => by rw [hl x]; exact congrArg B (hrow x hx))
  isplitl [Hsl]
  · iexact Hsl
  iintro Hsl
  rw [runs_bind]
  iapply wp_put d L sscoV rfl off h c (fun q => C (rowOf (511 * i₀ + q))) (511 * t + 16 * u) _ _ hoff hge hle
    (fun x hx => by rw [hc x]; exact congrArg C (hrow x hx))
  isplitl [Hss]
  · iexact Hss
  iintro Hss
  iapply runs_pure d L 0#32 _
  isplitl [HB HC]
  · isplitl [HB]
    · iexact HB
    iexact HC
  isplitl [Hsl]
  · iexact Hsl
  isplitl [Hol]
  · iexact Hol
  isplitl [Hss]
  · iexact Hss
  isplitl [Hos]
  · iexact Hos
  isplitl [Hsi]
  · iexact Hsi
  iexact Hoi

/-- What a group holds once its first `t` rows are made. -/
abbrev Made (i₀ t : ℕ) : sProp (MM F) :=
  iprop(Tables d L A B C ∗ Boxes d L A i₀ (2555 * t) ∗ Entries d L B C i₀ (511 * t))

theorem wp_row (i₀ i : ℕ) (base : BitVec 32) (hbase : base.toNat = i₀) (t : Fin k0_t1_loop.trips) (hi : i = i₀ + t.val) (hi' : i < 512) :
    Made d L A B C i₀ t.val ⊢ Runs d L (row L base t) fun _ => Made d L A B C i₀ (t.val + 1) := by
  have ht : t.val < 8 := lt_of_lt_of_eq t.isLt (by decide)
  have hiv : (Scalar.addi base (Scf.iv 0#32 1#32 t.val)) = BitVec.ofNat 32 i := by
    apply BitVec.eq_of_toNat_eq
    simp only [Scalar.addi, IntOp.addi, Scf.iv, BitVec.toNat_add, BitVec.toNat_mul, BitVec.toNat_ofNat, hbase]
    omega
  have hmul : (Scalar.muli 5#32 (Scalar.addi base (Scf.iv 0#32 1#32 t.val))).toNat = 5 * i := by
    rw [hiv]; simp only [Scalar.muli, IntOp.muli, BitVec.toNat_mul, BitVec.toNat_ofNat]
    omega
  have hb : ∀ x, ((broadcast S16 (Scalar.muli 5#32 (Scalar.addi base (Scf.iv 0#32 1#32 t.val))) : IVec S16 32) x).toNat = 5 * i := fun _ => hmul
  have hr : ∀ x, ((broadcast S16 (Scalar.addi base (Scf.iv 0#32 1#32 t.val)) : IVec S16 32) x).toNat = i := fun _ => by
    simp only [broadcast, hiv, BitVec.toNat_ofNat]; omega
  have hp : ∀ (p : Fin 5) x, (addi (broadcast S16 (Scalar.muli 5#32 (Scalar.addi base (Scf.iv 0#32 1#32 t.val)))) (modFive (BitVec.ofNat 32 (16 * p.val))) x).toNat
      = 5 * i + (lane x + 16 * p.val) % 5 := by
    intro p x
    simp only [addi, IntOp.addi, BitVec.toNat_add, modFive_apply, BitVec.toNat_ofNat]
    rw [hb]
    omega
  have chk : k0_chk6 (broadcast S16 (Scalar.addi base (Scf.iv 0#32 1#32 t.val))) := by
    have : ∀ (a : Fin 1) (x : S16.Idx), ((![broadcast S16 (Scalar.addi base (Scf.iv 0#32 1#32 t.val))] : Fin 1 → IVec S16 32) a x).toNat < 528 := by
      intro a x; obtain rfl : a = 0 := Subsingleton.elim _ _
      exact lt_of_eq_of_lt (hr x) (by omega)
    exact ⟨fun a x => by obtain rfl : a = 0 := Subsingleton.elim _ _; exact this 0 x, fun a x => by obtain rfl : a = 0 := Subsingleton.elim _ _; exact this 0 x⟩
  have pk := fun (p : Fin 5) => wp_pick d L A (addi (broadcast S16 (Scalar.muli 5#32 (Scalar.addi base (Scf.iv 0#32 1#32 t.val)))) (modFive (BitVec.ofNat 32 (16 * p.val))))
    (fun x => by rw [hp]; omega)
  have pv : ∀ (p : Fin 5) (w : Vec F S16 .f32), (∀ x, (addi (broadcast S16 (Scalar.muli 5#32 (Scalar.addi base (Scf.iv 0#32 1#32 t.val)))) (modFive (BitVec.ofNat 32 (16 * p.val))) x).toNat < 2560
      → w x = A (addi (broadcast S16 (Scalar.muli 5#32 (Scalar.addi base (Scf.iv 0#32 1#32 t.val)))) (modFive (BitVec.ofNat 32 (16 * p.val))) x).toNat) →
      ∀ x, w x = A (5 * i + (lane x + 16 * p.val) % 5) := by
    intro p w hw x
    rw [hw x (by rw [hp]; omega), hp]
  unfold row
  rw [runs_assume d L chk, runs_bind]
  iintro ⟨⟨HA, HB, HC⟩, Hx, Hy⟩
  iapply pk 0
  isplitl [HA]
  · iexact HA
  iintro %s0 %h0 HA
  rw [runs_bind]
  iapply pk 1
  isplitl [HA]
  · iexact HA
  iintro %s1 %h1 HA
  rw [runs_bind]
  iapply pk 2
  isplitl [HA]
  · iexact HA
  iintro %s2 %h2 HA
  rw [runs_bind]
  iapply pk 3
  isplitl [HA]
  · iexact HA
  iintro %s3 %h3 HA
  rw [runs_bind]
  iapply pk 4
  isplitl [HA]
  · iexact HA
  iintro %s4 %h4 HA
  rw [runs_bind]
  iapply wp_gather d L labV (broadcast S16 (Scalar.addi base (Scf.iv 0#32 1#32 t.val))) _ _ B 512
  isplitl [HB]
  · iexact HB
  iintro %l %hl HB
  rw [runs_bind]
  iapply wp_gather d L scoV (broadcast S16 (Scalar.addi base (Scf.iv 0#32 1#32 t.val))) _ _ C 512
  isplitl [HC]
  · iexact HC
  iintro %c %hc HC
  have hs : ∀ (p : Fin 5) x, (![s0, s1, s2, s3, s4] : Fin 5 → Vec F S16 .f32) p x = A (5 * i + (lane x + 16 * p.val) % 5) := by
    intro p
    match p with
    | 0 => exact pv 0 s0 h0
    | 1 => exact pv 1 s1 h1
    | 2 => exact pv 2 s2 h2
    | 3 => exact pv 3 s3 h3
    | 4 => exact pv 4 s4 h4
  have hl' : ∀ x, l x = B i := fun x => by rw [hl x (by rw [hr]; exact hi'), hr]
  have hc' : ∀ x, c x = C i := fun x => by rw [hc x (by rw [hr]; exact hi'), hr]
  rw [runs_bind]
  iapply wp_loop d L k0_t2_loop k0_t2_ok (T := 32) (by decide) 0#32 _
    (fun u => iprop(Det d L A ∗ Boxes d L A i₀ (min (2555 * t.val + 80 * u) (2555 * (t.val + 1)))))
    (fun u _ => wp_trip d L A i₀ i t u hi hi' _ hb _ hs)
  isplitl [HA Hx]
  · rw [show min (2555 * t.val + 80 * 0) (2555 * (t.val + 1)) = 2555 * t.val by omega]
    isplitl [HA]
    · iexact HA
    iexact Hx
  iintro %_ ⟨HA, Hx⟩
  rw [runs_bind]
  iapply wp_loop d L k0_t3_loop k0_t3_ok (T := 32) (by decide) 0#32 _
    (fun u => iprop((Holds d L labV B 512 ∗ Holds d L scoV C 512) ∗ Entries d L B C i₀ (min (511 * t.val + 16 * u) (511 * (t.val + 1)))))
    (fun u _ => by
      have hu : u.val < 32 := lt_of_lt_of_eq u.isLt (by decide)
      exact wp_pairPiece d L B C i₀ i t.val u.val hi hi' hu _ _ l c _ _ (by rw [k0_off6_eq]; rfl)
        (fun x => skip_toNat (loop_word u (by omega) 16 (by omega)) (by omega) (by decide) (by omega) x (hr x)) (fun _ => hiv) hl' hc')
  isplitl [HB HC Hy]
  · rw [show min (511 * t.val + 16 * 0) (511 * (t.val + 1)) = 511 * t.val by omega]
    isplitl [HB HC]
    · isplitl [HB]
      · iexact HB
      iexact HC
    iexact Hy
  iintro %_ ⟨⟨HB, HC⟩, Hy⟩
  rw [show min (2555 * t.val + 80 * 32) (2555 * (t.val + 1)) = 2555 * (t.val + 1) by omega,
    show min (511 * t.val + 16 * 32) (511 * (t.val + 1)) = 511 * (t.val + 1) by omega]
  iapply runs_pure d L 0#32 _
  isplitl [HA HB HC]
  · isplitl [HA]
    · iexact HA
    isplitl [HB]
    · iexact HB
    iexact HC
  isplitl [Hx]
  · iexact Hx
  iexact Hy

/-- The eight rows of a group. -/
theorem wp_rows (i₀ : ℕ) (base : BitVec 32) (hbase : base.toNat = i₀) (hi : i₀ + 8 ≤ 512) (Q : BitVec 32 → sProp (MM F)) :
    iprop(Made d L A B C i₀ 0 ∗ (∀ a, Made d L A B C i₀ 8 -∗ Q a)) ⊢ Runs d L (rows L base) Q :=
  wp_loop d L k0_t1_loop k0_t1_ok (T := 8) (by decide) 0#32 _ (fun t => Made d L A B C i₀ t)
    (fun t _ => wp_row d L A B C i₀ (i₀ + t.val) base hbase t rfl (by
      have : t.val < 8 := lt_of_lt_of_eq t.isLt (by decide)
      omega)) Q

end Cert.Pairs

end
-- ==== Proof.Copy.lean ====
/- The copies: a table fetched whole, a block sent to its place in a result array. Every copy is
   waited for at once. -/
module

public import proofs.«01_k».proof.Proof.Rows

@[expose] public section

noncomputable section

namespace Cert.Pairs

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)
variable (O : CellTallies nD τ sig (HIx 1)) (W : Waits sig (HIx 1))

/-- What the thread owes the launch throughout, and leave to wait for its own copies. -/
def Owing : sProp (MM F) :=
  iprop(Transfers.MayWaits (thr d L) (default : HIx 1) O ∗ ∃ W', ⌜∀ p ∈ W', p ∈ W ∨ p.2 = none⌝ ∗ owes (thr d L) O W')

/-- A copy's semaphore at rest. -/
abbrev Idle (c : DmaSems sig S_) : sProp (MM F) := semVal (thr d L, .dma c.sem) 0

/-- A copy and the wait for it. -/
theorem wp_copy {sp sp' : Space} {s : Shape} {e : EltTy} (src : Memref sig .scVector sp s e) (dst : Memref sig .scVector sp' s e) (c : DmaSems sig S_)
    (hs : src.view.WordExact) (hd : dst.view.WordExact) (ht : DmaTarget.Typed (nD := nD) (τ := τ) (p := (thr d L).2) sp (.dma c.sem) (.here dst))
    (hN : 0 < dst.view.amount (.dma c.sem)) (hw : dst.view.dmaCredit = dst.view.amount (.dma c.sem))
    (q : PosShare TreeShare) (fs : Buf (Elt F) (src.view.loc (thr d L))) (Sd : Finset (Idx (dst.view.loc (thr d L))))
    (hSd : dst.view.set ⊆ Sd) (fd : Buf (Elt F) (dst.view.loc (thr d L))) (Q : PUnit → sProp (MM F)) :
    iprop((Owing d L O W ∗ Idle d L c ∗ (src.view.loc (thr d L) ↦[src.view.set]{q} fs) ∗ dst.view.loc (thr d L) ↦[Sd]{fullShare} fd)
        ∗ (Owing d L O W -∗ Idle d L c -∗ (src.view.loc (thr d L) ↦[src.view.set]{q} fs)
            -∗ (dst.view.loc (thr d L) ↦[Sd]{fullShare} dst.view.write (Elt F) fd (src.view.read (Elt F) fs) Finset.univ) -∗ Q ⟨⟩))
      ⊢ Runs (F := F) d L (do
          Prog.lift (.enqueueDma src (.here dst) (.dma c.sem) hs hd ht)
          Prog.lift (.waitDma2 c.sem src dst hs hd)) Q := by
  simp only [Prog.lift, Prog.bind_op, Prog.bind_ret]
  unfold Owing
  iintro ⟨⟨⟨#Hmw, %W', %hW', HO⟩, Hc, Hs, Hd⟩, HQ⟩
  iapply (Transfers.wp_dmaLocal countersEmb 𝒱₀ (thr d L) none (default : HIx 1) (dst.view.amount (.dma c.sem)) rfl hN hSd) $$ [Hs Hd Hc]
  · isplitl [Hs]; · iexact Hs
    isplitl [Hd]; · iexact Hd
    iexact Hc
  iintro Hf
  iapply (Transfers.wp_waitLocalO countersEmb 𝒱₀ (thr d L) none (default : HIx 1) hw) $$ [Hf HO]
  · isplitl [Hf]; · iexact Hf
    isplitl [HO]; · iexact HO
    iapply (Transfers.MayWaits.elim (SemLoc.dma c.sem)) $$ Hmw
  iintro ⟨⟨Hd, Hs⟩, Hc, HO⟩
  rw [wp_ret]
  imodintro
  iapply HQ $$ [HO] [Hc] [Hs] [Hd]
  · isplitr
    · iexact Hmw
    iexists _
    isplitr
    swap
    · iexact HO
    ipureintro
    intro p hp
    rcases Finset.mem_insert.mp hp with hp | hp
    · exact .inr (hp ▸ rfl)
    · exact hW' p hp
  · iexact Hc
  · iexact Hs
  · iexact Hd

/-- A group's place in an array of boxes, and in an array of pair entries. -/
abbrev rowsR (r : Fin 2) : Rect S1308160 := Rect.unit (s := S1308160) (k0_off7 L (BitVec.ofNat 32 r.val)) S20440.size (k0_off7_inb L r)
abbrev pairsR (r : Fin 2) : Rect S261632 := Rect.unit (s := S261632) (k0_off8 L (BitVec.ofNat 32 r.val)) S4088.size (k0_off8_inb L r)

/-- The first elements of a block, as a piece of it. -/
abbrev front {N : ℕ} (sz : Fin 1 → ℕ) (h : ∀ a, (![0] : Fin 1 → ℕ) a + sz a ≤ (⟨1, ![N]⟩ : Shape).size a) : Rect ⟨1, ![N]⟩ :=
  Rect.unit (s := ⟨1, ![N]⟩) ![0] sz h

/-- A block sent to its place: the place then holds what the whole array shall hold there. -/
theorem wp_out {N J : ℕ} {e : EltTy} (M : Memref sig .scVector .vmem ⟨1, ![N]⟩ e) (R : Memref sig .scVector .hbm ⟨1, ![J]⟩ e) (sz off : Fin 1 → ℕ)
    (h0 : ∀ a, (![0] : Fin 1 → ℕ) a + sz a ≤ (⟨1, ![N]⟩ : Shape).size a) (h1 : ∀ a, off a + sz a ≤ (⟨1, ![J]⟩ : Shape).size a) (c : DmaSems sig S_)
    (hs : (M.slice (front sz h0) (fun _ => rfl)).view.WordExact)
    (hd : (R.slice (Rect.unit (s := ⟨1, ![J]⟩) off sz h1) (fun _ => rfl)).view.WordExact)
    (ht : DmaTarget.Typed (nD := nD) (τ := τ) (p := (thr d L).2) .vmem (.dma c.sem) (.here (R.slice (Rect.unit (s := ⟨1, ![J]⟩) off sz h1) (fun _ => rfl))))
    (hN : 0 < (R.slice (Rect.unit (s := ⟨1, ![J]⟩) off sz h1) (fun _ => rfl)).view.amount (.dma c.sem))
    (hw : (R.slice (Rect.unit (s := ⟨1, ![J]⟩) off sz h1) (fun _ => rfl)).view.dmaCredit
      = (R.slice (Rect.unit (s := ⟨1, ![J]⟩) off sz h1) (fun _ => rfl)).view.amount (.dma c.sem))
    (G H : ℕ → Elt F e) (g : Buf (Elt F) (R.view.loc (thr d L))) (hg : ∀ p, R.view.read (Elt F) g p = H (p 0).val)
    (hGH : ∀ q < sz 0, G q = H (off 0 + q)) (fd : Buf (Elt F) (R.view.loc (thr d L))) (Q : PUnit → sProp (MM F)) :
    iprop((Owing d L O W ∗ Idle d L c ∗ Holds d L M G (sz 0)
          ∗ R.view.loc (thr d L) ↦[(R.slice (Rect.unit (s := ⟨1, ![J]⟩) off sz h1) (fun _ => rfl)).view.set]{fullShare} fd)
        ∗ ((Owing d L O W ∗ Idle d L c ∗ Holds d L M G (sz 0)
          ∗ R.view.loc (thr d L) ↦[(R.slice (Rect.unit (s := ⟨1, ![J]⟩) off sz h1) (fun _ => rfl)).view.set]{fullShare} g) -∗ Q ⟨⟩))
      ⊢ Runs (F := F) d L (do
          Prog.lift (.enqueueDma (M.slice (front sz h0) (fun _ => rfl)) (.here (R.slice (Rect.unit (s := ⟨1, ![J]⟩) off sz h1) (fun _ => rfl)))
            (.dma c.sem) hs hd ht)
          Prog.lift (.waitDma2 c.sem (M.slice (front sz h0) (fun _ => rfl)) (R.slice (Rect.unit (s := ⟨1, ![J]⟩) off sz h1) (fun _ => rfl)) hs hd)) Q := by
  unfold Holds
  iintro ⟨⟨HO, Hc, ⟨%f, %hf, Hf⟩, Hd⟩, HQ⟩
  ihave Hf := (pointsTo_split_subset (q := fullShare) (f := f) (S := Finset.univ)
    (Finset.subset_univ (M.slice (front sz h0) (fun _ => rfl)).view.set)).1 $$ Hf
  icases Hf with ⟨Hf, Hr⟩
  iapply wp_copy d L O W (M.slice (front sz h0) (fun _ => rfl)) (R.slice (Rect.unit (s := ⟨1, ![J]⟩) off sz h1) (fun _ => rfl)) c hs hd ht hN hw
    fullShare f _ (Finset.Subset.refl _) fd Q
  isplitl [HO Hc Hf Hd]
  · isplitl [HO]; · iexact HO
    isplitl [Hc]; · iexact Hc
    isplitl [Hf]; · iexact Hf
    iexact Hd
  iintro HO Hc Hf Hd
  ihave Hf := (pointsTo_split_subset (q := fullShare) (f := f) (S := Finset.univ)
    (Finset.subset_univ (M.slice (front sz h0) (fun _ => rfl)).view.set)).2 $$ [Hf Hr]
  · isplitl [Hf]; · iexact Hf
    iexact Hr
  iapply HQ
  isplitl [HO]; · iexact HO
  isplitl [Hc]; · iexact Hc
  isplitl [Hf]
  · iexists f
    isplitr
    · ipureintro; exact hf
    · iexact Hf
  iapply (Entails.of_eq (pointsTo_congr fun i hi => ?_)) $$ Hd
  obtain ⟨x, -, rfl⟩ := Finset.mem_map.mp hi
  rw [View.write_emb_of_mem _ _ (Finset.mem_univ _)]
  have hx : (x 0).val < sz 0 := (x 0).isLt
  have e1 : (M.slice (front sz h0) (fun _ => rfl)).view.read (Elt F) f x = G (x 0).val := by
    refine (hf ((front sz h0).emb x) ?_).trans ?_
    · show 0 + 1 * (x 0).val < sz 0
      omega
    · show G (0 + 1 * (x 0).val) = _
      congr 1; omega
  have e2 : (R.slice (Rect.unit (s := ⟨1, ![J]⟩) off sz h1) (fun _ => rfl)).view.read (Elt F) g x = H (off 0 + (x 0).val) := by
    refine (hg ((Rect.unit (s := ⟨1, ![J]⟩) off sz h1).emb x)).trans ?_
    show H (off 0 + 1 * (x 0).val) = _
    congr 1; omega
  rw [e1, hGH _ hx, ← e2, View.read_apply, cast_cast, cast_eq]

/-- A table fetched. -/
theorem wp_in {N J : ℕ} {e : EltTy} (I : Memref sig .scVector .hbm ⟨1, ![J]⟩ e) (M : Memref sig .scVector .vmem ⟨1, ![N]⟩ e)
    (h0 : ∀ a, (![0] : Fin 1 → ℕ) a + (![J] : Fin 1 → ℕ) a ≤ (⟨1, ![N]⟩ : Shape).size a) (c : DmaSems sig S_) (hs : I.view.WordExact)
    (hd : (M.slice (front ![J] h0) (fun _ => rfl)).view.WordExact)
    (ht : DmaTarget.Typed (nD := nD) (τ := τ) (p := (thr d L).2) .hbm (.dma c.sem) (.here (M.slice (front ![J] h0) (fun _ => rfl))))
    (hN : 0 < (M.slice (front ![J] h0) (fun _ => rfl)).view.amount (.dma c.sem))
    (hw : (M.slice (front ![J] h0) (fun _ => rfl)).view.dmaCredit = (M.slice (front ![J] h0) (fun _ => rfl)).view.amount (.dma c.sem))
    (hI : I.view.set = Finset.univ) (G : ℕ → Elt F e) (q : PosShare TreeShare) (g : Buf (Elt F) (I.view.loc (thr d L)))
    (hg : ∀ p, I.view.read (Elt F) g p = G (p 0).val) (Q : PUnit → sProp (MM F)) :
    iprop((Owing d L O W ∗ Idle d L c ∗ (I.view.loc (thr d L) ↦{q} g) ∗ ∃ f, M.view.loc (thr d L) ↦{fullShare} f)
        ∗ ((Owing d L O W ∗ Idle d L c ∗ (I.view.loc (thr d L) ↦{q} g) ∗ Holds d L M G J) -∗ Q ⟨⟩))
      ⊢ Runs (F := F) d L (do
          Prog.lift (.enqueueDma I (.here (M.slice (front ![J] h0) (fun _ => rfl))) (.dma c.sem) hs hd ht)
          Prog.lift (.waitDma2 c.sem I (M.slice (front ![J] h0) (fun _ => rfl)) hs hd)) Q := by
  rw [← hI]
  unfold Holds
  iintro ⟨⟨HO, Hc, Hs, ⟨%f, Hf⟩⟩, HQ⟩
  iapply wp_copy d L O W I (M.slice (front ![J] h0) (fun _ => rfl)) c hs hd ht hN hw q g Finset.univ (Finset.subset_univ _) f Q
  isplitl [HO Hc Hf Hs]
  · isplitl [HO]; · iexact HO
    isplitl [Hc]; · iexact Hc
    isplitl [Hs]; · iexact Hs
    iexact Hf
  iintro HO Hc Hs Hf
  iapply HQ
  isplitl [HO]; · iexact HO
  isplitl [Hc]; · iexact Hc
  isplitl [Hs]; · iexact Hs
  iexists _
  isplitr
  swap
  · iexact Hf
  ipureintro
  intro p hp
  let x : (front (N := N) ![J] h0).shape.Idx := Shape.ofLane (d := ![J]) (⟨(p 0).val, hp⟩ : Fin J)
  have hxp : (front ![J] h0).emb x = p := by
    funext a
    obtain rfl : a = 0 := Subsingleton.elim _ _
    apply Fin.ext
    show 0 + 1 * (p 0).val = (p 0).val
    omega
  rw [← hxp]
  refine (congrFun (View.read_write_univ (v := (M.slice (front ![J] h0) (fun _ => rfl)).view) f (I.view.read (Elt F) g)) x).trans ?_
  rw [hg]
  congr 1
  show (x 0).val = 0 + 1 * (x 0).val
  omega

theorem wp_sendRows (M : Memref sig .scVector .vmem S20448 .f32) (R : Memref sig .scVector .hbm S1308160 .f32) (c : DmaSems sig S_) (r : Fin 2)
    (hN : 0 < R.view.ref.dmaCredit S20440 .f32)
    (G H : ℕ → Elt F .f32) (g : Buf (Elt F) (R.view.loc (thr d L))) (hg : ∀ p, R.view.read (Elt F) g p = H (p 0).val)
    (hGH : ∀ q, G q = H (k0_off7 L (BitVec.ofNat 32 r.val) 0 + q)) (fd : Buf (Elt F) (R.view.loc (thr d L))) (Q : PUnit → sProp (MM F)) :
    iprop((Owing d L O W ∗ Idle d L c ∗ Holds d L M G 20440
          ∗ R.view.loc (thr d L) ↦[(R.slice (rowsR L r) (fun _ => rfl)).view.set]{fullShare} fd)
        ∗ ((Owing d L O W ∗ Idle d L c ∗ Holds d L M G 20440
          ∗ R.view.loc (thr d L) ↦[(R.slice (rowsR L r) (fun _ => rfl)).view.set]{fullShare} g) -∗ Q ⟨⟩))
      ⊢ Runs d L (sendRows L M R c r) Q :=
  wp_out d L O W M R S20440.size _ _ _ c _ _ _ hN rfl G H g hg (fun q _ => hGH q) fd Q

theorem wp_sendPairs {e : EltTy} (he : e.bits = 32) (M : Memref sig .scVector .vmem S4096 e) (R : Memref sig .scVector .hbm S261632 e)
    (c : DmaSems sig S_) (r : Fin 2) (hN : 0 < R.view.ref.dmaCredit S4088 e)
    (G H : ℕ → Elt F e) (g : Buf (Elt F) (R.view.loc (thr d L))) (hg : ∀ p, R.view.read (Elt F) g p = H (p 0).val)
    (hGH : ∀ q, G q = H (k0_off8 L (BitVec.ofNat 32 r.val) 0 + q)) (fd : Buf (Elt F) (R.view.loc (thr d L))) (Q : PUnit → sProp (MM F)) :
    iprop((Owing d L O W ∗ Idle d L c ∗ Holds d L M G 4088
          ∗ R.view.loc (thr d L) ↦[(R.slice (pairsR L r) (fun _ => rfl)).view.set]{fullShare} fd)
        ∗ ((Owing d L O W ∗ Idle d L c ∗ Holds d L M G 4088
          ∗ R.view.loc (thr d L) ↦[(R.slice (pairsR L r) (fun _ => rfl)).view.set]{fullShare} g) -∗ Q ⟨⟩))
      ⊢ Runs d L (sendPairs L he M R c r) Q :=
  wp_out d L O W M R S4088.size _ _ _ c _ _ _ hN rfl G H g hg (fun q _ => hGH q) fd Q

end Cert.Pairs

end
-- ==== Proof.Send.lean ====
/- A group's nine blocks sent to their places. -/
module

public import proofs.«01_k».proof.Proof.Copy

@[expose] public section

noncomputable section

namespace Cert.Pairs

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-- The nine result arrays, as a subcore addresses them. -/
abbrev sbjO : Memref sig .scVector .hbm S1308160 .f32 := Memref.whole main_v1_0_scv
abbrev objO : Memref sig .scVector .hbm S1308160 .f32 := Memref.whole main_v1_1_scv
abbrev relO : Memref sig .scVector .hbm S1308160 .f32 := Memref.whole main_v1_2_scv
abbrev slabO : Memref sig .scVector .hbm S261632 .i32 := Memref.whole main_v1_3_scv
abbrev olabO : Memref sig .scVector .hbm S261632 .i32 := Memref.whole main_v1_4_scv
abbrev sscoO : Memref sig .scVector .hbm S261632 .f32 := Memref.whole main_v1_5_scv
abbrev oscoO : Memref sig .scVector .hbm S261632 .f32 := Memref.whole main_v1_6_scv
abbrev sindO : Memref sig .scVector .hbm S261632 .i32 := Memref.whole main_v1_7_scv
abbrev oindO : Memref sig .scVector .hbm S261632 .i32 := Memref.whole main_v1_8_scv

/-- An array's location on device `d`. -/
abbrev hbmLoc (d : Dev nD) (b : Ref sig .tc) : Loc nD τ sig := (SparseCore.T d : Thread nD τ).loc b

/-- Contents of the nine. -/
structure Nine (F : FTy → Type) (d : Dev nD) where
  sbj : Buf (Elt F) (hbmLoc d main_v1_0)
  obj : Buf (Elt F) (hbmLoc d main_v1_1)
  rel : Buf (Elt F) (hbmLoc d main_v1_2)
  slab : Buf (Elt F) (hbmLoc d main_v1_3)
  olab : Buf (Elt F) (hbmLoc d main_v1_4)
  ssco : Buf (Elt F) (hbmLoc d main_v1_5)
  osco : Buf (Elt F) (hbmLoc d main_v1_6)
  sind : Buf (Elt F) (hbmLoc d main_v1_7)
  oind : Buf (Elt F) (hbmLoc d main_v1_8)

/-- A whole array, by its flat positions. -/
abbrev byPos {α : Type} {N : ℕ} (H : ℕ → α) : (⟨1, ![N]⟩ : Shape).Idx → α := fun p => H (p 0).val

variable [FloatOps F] (d : Dev nD) (L : grid0.Coords)
variable (O : CellTallies nD τ sig (HIx 1)) (W : Waits sig (HIx 1))
variable (A : ℕ → Elt F .f32) (B : ℕ → Elt F .i32) (C : ℕ → Elt F .f32)

/-- What the nine shall hold, by flat positions. -/
def made : Nine F d where
  sbj := byPos (N := 1308160) (sbjAt A)
  obj := byPos (N := 1308160) (objAt A)
  rel := byPos (N := 1308160) (relAt A)
  slab := byPos (N := 261632) fun q => B (rowOf q)
  olab := byPos (N := 261632) fun q => B (colOf q)
  ssco := byPos (N := 261632) fun q => C (rowOf q)
  osco := byPos (N := 261632) fun q => C (colOf q)
  sind := byPos (N := 261632) fun q => (BitVec.ofNat 32 (rowOf q) : Elt F .i32)
  oind := byPos (N := 261632) fun q => (BitVec.ofNat 32 (colOf q) : Elt F .i32)

/-- A group's place in an array of boxes, at contents `f`; and in an array of pair entries. -/
abbrev RowsAt (R : Memref sig .scVector .hbm S1308160 .f32) (r : Fin 2) (f : Buf (Elt F) (R.view.loc (thr d L))) : sProp (MM F) :=
  R.view.loc (thr d L) ↦[(R.slice (rowsR L r) (fun _ => rfl)).view.set]{fullShare} f
abbrev PairsAt {e : EltTy} (R : Memref sig .scVector .hbm S261632 e) (r : Fin 2) (f : Buf (Elt F) (R.view.loc (thr d L))) : sProp (MM F) :=
  R.view.loc (thr d L) ↦[(R.slice (pairsR L r) (fun _ => rfl)).view.set]{fullShare} f

/-- A group's nine places. -/
abbrev Places (r : Fin 2) (f : Nine F d) : sProp (MM F) :=
  iprop(RowsAt d L sbjO r f.sbj ∗ RowsAt d L objO r f.obj ∗ RowsAt d L relO r f.rel ∗ PairsAt d L slabO r f.slab ∗ PairsAt d L olabO r f.olab
    ∗ PairsAt d L sscoO r f.ssco ∗ PairsAt d L oscoO r f.osco ∗ PairsAt d L sindO r f.sind ∗ PairsAt d L oindO r f.oind)

/-- The nine semaphores of a group's copies, at rest. -/
abbrev Idles (c : Fin 9 → DmaSems sig S_) : sProp (MM F) :=
  iprop(Idle d L (c 0) ∗ Idle d L (c 1) ∗ Idle d L (c 2) ∗ Idle d L (c 3) ∗ Idle d L (c 4) ∗ Idle d L (c 5) ∗ Idle d L (c 6) ∗ Idle d L (c 7)
    ∗ Idle d L (c 8))

theorem wp_send (r : Fin 2) (c : Fin 9 → DmaSems sig S_) (i₀ : ℕ) (h7 : k0_off7 L (BitVec.ofNat 32 r.val) 0 = 2555 * i₀)
    (h8 : k0_off8 L (BitVec.ofNat 32 r.val) 0 = 511 * i₀) (f : Nine F d) (Q : PUnit → sProp (MM F)) :
    iprop((Owing d L O W ∗ Idles d L c ∗ Boxes d L A i₀ 20440 ∗ Entries d L B C i₀ 4088 ∗ Places d L r f)
        ∗ ((Owing d L O W ∗ Idles d L c ∗ Boxes d L A i₀ 20440 ∗ Entries d L B C i₀ 4088 ∗ Places d L r (made d A B C)) -∗ Q ⟨⟩))
      ⊢ Runs d L (send L r c) Q := by
  have e7 : ∀ {α : Type} (H : ℕ → α) q, H (2555 * i₀ + q) = H (k0_off7 L (BitVec.ofNat 32 r.val) 0 + q) := fun H q => by rw [h7]
  have e8 : ∀ {α : Type} (H : ℕ → α) q, H (511 * i₀ + q) = H (k0_off8 L (BitVec.ofNat 32 r.val) 0 + q) := fun H q => by rw [h8]
  unfold send
  iintro ⟨⟨HO, ⟨C0, C1, C2, C3, C4, C5, C6, C7, C8⟩, ⟨M0, M1, M2⟩, ⟨M3, M4, M5, M6, M7, M8⟩, ⟨R0, R1, R2, R3, R4, R5, R6, R7, R8⟩⟩, HQ⟩
  rw [runs_bind]
  iapply wp_sendRows d L O W sbjV sbjO (c 0) r (by decide) _ (sbjAt A) (made d A B C).sbj (fun _ => rfl) (e7 _) f.sbj
  isplitl [HO C0 M0 R0]
  · isplitl [HO]; · iexact HO
    isplitl [C0]; · iexact C0
    isplitl [M0]; · iexact M0
    iexact R0
  iintro ⟨HO, C0, M0, R0⟩
  rw [runs_bind]
  iapply wp_sendRows d L O W objV objO (c 1) r (by decide) _ (objAt A) (made d A B C).obj (fun _ => rfl) (e7 _) f.obj
  isplitl [HO C1 M1 R1]
  · isplitl [HO]; · iexact HO
    isplitl [C1]; · iexact C1
    isplitl [M1]; · iexact M1
    iexact R1
  iintro ⟨HO, C1, M1, R1⟩
  rw [runs_bind]
  iapply wp_sendRows d L O W relV relO (c 2) r (by decide) _ (relAt A) (made d A B C).rel (fun _ => rfl) (e7 _) f.rel
  isplitl [HO C2 M2 R2]
  · isplitl [HO]; · iexact HO
    isplitl [C2]; · iexact C2
    isplitl [M2]; · iexact M2
    iexact R2
  iintro ⟨HO, C2, M2, R2⟩
  rw [runs_bind]
  iapply wp_sendPairs d L O W rfl slabV slabO (c 3) r (by decide) _ (fun q => B (rowOf q)) (made d A B C).slab (fun _ => rfl) (e8 fun q => B (rowOf q)) f.slab
  isplitl [HO C3 M3 R3]
  · isplitl [HO]; · iexact HO
    isplitl [C3]; · iexact C3
    isplitl [M3]; · iexact M3
    iexact R3
  iintro ⟨HO, C3, M3, R3⟩
  rw [runs_bind]
  iapply wp_sendPairs d L O W rfl olabV olabO (c 4) r (by decide) _ (fun q => B (colOf q)) (made d A B C).olab (fun _ => rfl) (e8 fun q => B (colOf q)) f.olab
  isplitl [HO C4 M4 R4]
  · isplitl [HO]; · iexact HO
    isplitl [C4]; · iexact C4
    isplitl [M4]; · iexact M4
    iexact R4
  iintro ⟨HO, C4, M4, R4⟩
  rw [runs_bind]
  iapply wp_sendPairs d L O W rfl sscoV sscoO (c 5) r (by decide) _ (fun q => C (rowOf q)) (made d A B C).ssco (fun _ => rfl) (e8 fun q => C (rowOf q)) f.ssco
  isplitl [HO C5 M5 R5]
  · isplitl [HO]; · iexact HO
    isplitl [C5]; · iexact C5
    isplitl [M5]; · iexact M5
    iexact R5
  iintro ⟨HO, C5, M5, R5⟩
  rw [runs_bind]
  iapply wp_sendPairs d L O W rfl oscoV oscoO (c 6) r (by decide) _ (fun q => C (colOf q)) (made d A B C).osco (fun _ => rfl) (e8 fun q => C (colOf q)) f.osco
  isplitl [HO C6 M6 R6]
  · isplitl [HO]; · iexact HO
    isplitl [C6]; · iexact C6
    isplitl [M6]; · iexact M6
    iexact R6
  iintro ⟨HO, C6, M6, R6⟩
  rw [runs_bind]
  iapply wp_sendPairs d L O W rfl sindV sindO (c 7) r (by decide) _ (fun q => (BitVec.ofNat 32 (rowOf q) : Elt F .i32)) (made d A B C).sind
    (fun _ => rfl) (e8 fun q => (BitVec.ofNat 32 (rowOf q) : Elt F .i32)) f.sind
  isplitl [HO C7 M7 R7]
  · isplitl [HO]; · iexact HO
    isplitl [C7]; · iexact C7
    isplitl [M7]; · iexact M7
    iexact R7
  iintro ⟨HO, C7, M7, R7⟩
  iapply wp_sendPairs d L O W rfl oindV oindO (c 8) r (by decide) _ (fun q => (BitVec.ofNat 32 (colOf q) : Elt F .i32)) (made d A B C).oind
    (fun _ => rfl) (e8 fun q => (BitVec.ofNat 32 (colOf q) : Elt F .i32)) f.oind
  isplitl [HO C8 M8 R8]
  · isplitl [HO]; · iexact HO
    isplitl [C8]; · iexact C8
    isplitl [M8]; · iexact M8
    iexact R8
  iintro ⟨HO, C8, M8, R8⟩
  iapply HQ
  isplitl [HO]; · iexact HO
  isplitl [C0 C1 C2 C3 C4 C5 C6 C7 C8]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    iexact C8
  isplitl [M0 M1 M2]
  · isplitl [M0]; · iexact M0
    isplitl [M1]; · iexact M1
    iexact M2
  isplitl [M3 M4 M5 M6 M7 M8]
  · isplitl [M3]; · iexact M3
    isplitl [M4]; · iexact M4
    isplitl [M5]; · iexact M5
    isplitl [M6]; · iexact M6
    isplitl [M7]; · iexact M7
    iexact M8
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexact R8

end Cert.Pairs

end
-- ==== Proof.Task.lean ====
/- The whole task of one vector subcore: three fetches, then twice eight rows and their nine sends. -/
module

public import proofs.«01_k».proof.Proof.Send

@[expose] public section

noncomputable section

namespace Cert.Pairs

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)
variable (O : CellTallies nD τ sig (HIx 1)) (W : Waits sig (HIx 1))
variable (A : ℕ → Elt F .f32) (B : ℕ → Elt F .i32) (C : ℕ → Elt F .f32)

/-- A scratch buffer, at whatever it holds. -/
abbrev Any {N : ℕ} {e : EltTy} (M : Memref sig .scVector .vmem ⟨1, ![N]⟩ e) : sProp (MM F) :=
  iprop(∃ f : Buf (Elt F) (M.view.loc (thr d L)), M.view.loc (thr d L) ↦{fullShare} f)

theorem holds_any {N : ℕ} {e : EltTy} (M : Memref sig .scVector .vmem ⟨1, ![N]⟩ e) (G : ℕ → Elt F e) (n : ℕ) : Holds d L M G n ⊢ Any d L M := by
  unfold Holds
  iintro ⟨%f, -, H⟩
  iexists f
  iexact H

theorem any_holds {N : ℕ} {e : EltTy} (M : Memref sig .scVector .vmem ⟨1, ![N]⟩ e) (G : ℕ → Elt F e) : Any d L M ⊢ Holds d L M G 0 := by
  unfold Holds
  iintro ⟨%f, H⟩
  iexists f
  isplitr
  · ipureintro; intro q hq; exact absurd hq (Nat.not_lt_zero _)
  · iexact H

/-- The nine blocks' buffers, at whatever they hold. -/
abbrev Blocks : sProp (MM F) :=
  iprop((Any d L sbjV ∗ Any d L objV ∗ Any d L relV)
    ∗ Any d L slabV ∗ Any d L olabV ∗ Any d L sscoV ∗ Any d L oscoV ∗ Any d L sindV ∗ Any d L oindV)

theorem blocks_of_made (i₀ n n' : ℕ) : iprop(Boxes d L A i₀ n ∗ Entries d L B C i₀ n') ⊢ Blocks d L :=
  BIClass.sep_mono (BIClass.sep_mono (holds_any d L _ _ _) (BIClass.sep_mono (holds_any d L _ _ _) (holds_any d L _ _ _)))
    (BIClass.sep_mono (holds_any d L _ _ _) (BIClass.sep_mono (holds_any d L _ _ _) (BIClass.sep_mono (holds_any d L _ _ _) (BIClass.sep_mono (holds_any d L _ _ _)
      (BIClass.sep_mono (holds_any d L _ _ _) (holds_any d L _ _ _))))))

theorem made_of_blocks (i₀ : ℕ) : Blocks d L ⊢ iprop(Boxes d L A i₀ 0 ∗ Entries d L B C i₀ 0) :=
  BIClass.sep_mono (BIClass.sep_mono (any_holds d L _ _) (BIClass.sep_mono (any_holds d L _ _) (any_holds d L _ _)))
    (BIClass.sep_mono (any_holds d L _ _) (BIClass.sep_mono (any_holds d L _ _) (BIClass.sep_mono (any_holds d L _ _) (BIClass.sep_mono (any_holds d L _ _)
      (BIClass.sep_mono (any_holds d L _ _) (any_holds d L _ _))))))

/-- The three inputs, at a share of them. -/
abbrev Inputs (q : PosShare TreeShare) (g0 : Buf (Elt F) (hbmLoc d main_v0)) (g1 : Buf (Elt F) (hbmLoc d main_arg1)) (g2 : Buf (Elt F) (hbmLoc d main_arg2)) :
    sProp (MM F) :=
  iprop((roisV.view.loc (thr d L) ↦{q} g0) ∗ (labelsV.view.loc (thr d L) ↦{q} g1) ∗ scoresV.view.loc (thr d L) ↦{q} g2)

abbrev cells0 : Fin 9 → DmaSems sig S_ :=
  ![cc0_scoped3, cc0_scoped4, cc0_scoped5, cc0_scoped6, cc0_scoped7, cc0_scoped8, cc0_scoped9, cc0_scoped10, cc0_scoped11]
abbrev cells1 : Fin 9 → DmaSems sig S_ :=
  ![cc0_scoped12, cc0_scoped13, cc0_scoped14, cc0_scoped15, cc0_scoped16, cc0_scoped17, cc0_scoped18, cc0_scoped19, cc0_scoped20]

/-- The semaphores of the task's copies, at rest. -/
abbrev AllIdle : sProp (MM F) :=
  iprop((Idle d L cc0_scoped0 ∗ Idle d L cc0_scoped1 ∗ Idle d L cc0_scoped2) ∗ Idles d L cells0 ∗ Idles d L cells1)

/-- The twelve scratch buffers. -/
abbrev Scratch : sProp (MM F) := iprop((Any d L detV ∗ Any d L labV ∗ Any d L scoV) ∗ Blocks d L)

/-- A group's first row, and the word it is computed as. -/
theorem base_toNat (k : ℕ) (hk : k ≤ 8) :
    (Scalar.addi (Scalar.muli (tileWord L) 16#32) (BitVec.ofNat 32 k)).toNat = 32 * (L 1).val + 16 * (L 0).val + k := by
  have h1 : (L 1).val < 16 := (L 1).isLt
  have h0 : (L 0).val < 2 := (L 0).isLt
  simp only [tileWord, Scalar.addi, Scalar.muli, IntOp.addi, IntOp.muli, BitVec.toNat_add, BitVec.toNat_mul, BitVec.toNat_ofNat]
  omega

/-- Eight rows and their sends. -/
theorem wp_group (r : Fin 2) (c : Fin 9 → DmaSems sig S_) (base : BitVec 32) (hbase : base.toNat = 32 * (L 1).val + 16 * (L 0).val + 8 * r.val)
    (f : Nine F d) {α : Type} (k : TileProg F L α) (Q : α → sProp (MM F)) :
    iprop((Owing d L O W ∗ Idles d L c ∗ Tables d L A B C ∗ Blocks d L ∗ Places d L r f)
        ∗ ((Owing d L O W ∗ Idles d L c ∗ Tables d L A B C ∗ Blocks d L ∗ Places d L r (made d A B C)) -∗ Runs d L k Q))
      ⊢ Runs d L (rows L base >>= fun _ => send L r c >>= fun _ => k) Q := by
  have h1 : (L 1).val < 16 := (L 1).isLt
  have h0 : (L 0).val < 2 := (L 0).isLt
  have hr := r.isLt
  rw [runs_bind]
  iintro ⟨⟨HO, HI, HT, HB, HP⟩, HQ⟩
  ihave HB := (made_of_blocks d L A B C (32 * (L 1).val + 16 * (L 0).val + 8 * r.val)) $$ HB
  icases HB with ⟨HX, HE⟩
  iapply wp_rows d L A B C _ base hbase (by omega)
  isplitl [HT HX HE]
  · isplitl [HT]; · iexact HT
    isplitl [HX]; · iexact HX
    iexact HE
  iintro %_ ⟨HT, HX, HE⟩
  rw [runs_bind]
  iapply wp_send d L O W A B C r c (32 * (L 1).val + 16 * (L 0).val + 8 * r.val)
    (by rw [k0_off7_eq]; show 81760 * (L 1).val + 40880 * (L 0).val + 20440 * r.val = _; omega)
    (by rw [k0_off8_eq]; show 16352 * (L 1).val + 8176 * (L 0).val + 4088 * r.val = _; omega) f
  isplitl [HO HI HX HE HP]
  · isplitl [HO]; · iexact HO
    isplitl [HI]; · iexact HI
    isplitl [HX]; · iexact HX
    isplitl [HE]; · iexact HE
    iexact HP
  iintro ⟨HO, HI, HX, HE, HP⟩
  ihave HB := (blocks_of_made d L A B C _ _ _) $$ [HX HE]
  · isplitl [HX]; · iexact HX
    iexact HE
  iapply HQ
  isplitl [HO]; · iexact HO
  isplitl [HI]; · iexact HI
  isplitl [HT]; · iexact HT
  isplitl [HB]; · iexact HB
  iexact HP

theorem wp_task (q : PosShare TreeShare) (g0 : Buf (Elt F) (hbmLoc d main_v0)) (g1 : Buf (Elt F) (hbmLoc d main_arg1)) (g2 : Buf (Elt F) (hbmLoc d main_arg2))
    (h0 : ∀ p : S2560.Idx, g0 p = A (p 0).val) (h1 : ∀ p : S512.Idx, g1 p = B (p 0).val) (h2 : ∀ p : S512.Idx, g2 p = C (p 0).val) (f : Nine F d) :
    iprop(Owing d L O W ∗ AllIdle d L ∗ Scratch d L ∗ Inputs d L q g0 g1 g2 ∗ Places d L 0 f ∗ Places d L 1 f)
      ⊢ Runs d L (task L) fun _ =>
        iprop(Owing d L O W ∗ AllIdle d L ∗ Scratch d L ∗ Inputs d L q g0 g1 g2 ∗ Places d L 0 (made d A B C) ∗ Places d L 1 (made d A B C)) := by
  have e : task (F := F) L = (do
      (do Prog.lift (.enqueueDma roisV (.here detFetch) (.dma cc0_scoped0.sem) (Memref.isWhole_whole _).wordExact (View.wordExact_bits rfl) ⟨Or.inl rfl, trivial⟩)
          Prog.lift (.waitDma2 cc0_scoped0.sem roisV detFetch (Memref.isWhole_whole _).wordExact (View.wordExact_bits rfl)))
      (do Prog.lift (.enqueueDma labelsV (.here labFetch) (.dma cc0_scoped1.sem) (Memref.isWhole_whole _).wordExact (View.wordExact_bits rfl) ⟨Or.inl rfl, trivial⟩)
          Prog.lift (.waitDma2 cc0_scoped1.sem labelsV labFetch (Memref.isWhole_whole _).wordExact (View.wordExact_bits rfl)))
      (do Prog.lift (.enqueueDma scoresV (.here scoFetch) (.dma cc0_scoped2.sem) (Memref.isWhole_whole _).wordExact (View.wordExact_bits rfl) ⟨Or.inl rfl, trivial⟩)
          Prog.lift (.waitDma2 cc0_scoped2.sem scoresV scoFetch (Memref.isWhole_whole _).wordExact (View.wordExact_bits rfl)))
      rows L (Scalar.addi (Scalar.muli (tileWord L) 16#32) 0#32) >>= fun _ => send L 0 cells0 >>= fun _ =>
      rows L (Scalar.addi (Scalar.muli (tileWord L) 16#32) 8#32) >>= fun _ => send L 1 cells1 >>= fun _ => pure ⟨⟩) := by
    unfold task
    simp only [bind_assoc, bind_pure]
    rfl
  rw [e, runs_bind]
  iintro ⟨HO, ⟨⟨I0, I1, I2⟩, J0, J1⟩, ⟨⟨S0, S1, S2⟩, HB⟩, ⟨G0, G1, G2⟩, P0, P1⟩
  iapply wp_in d L O W roisV detV _ cc0_scoped0 _ _ _ (by decide) rfl (View.set_whole _) A q g0 h0
  isplitl [HO I0 S0 G0]
  · isplitl [HO]; · iexact HO
    isplitl [I0]; · iexact I0
    isplitl [G0]; · iexact G0
    iexact S0
  iintro ⟨HO, I0, G0, T0⟩
  rw [runs_bind]
  iapply wp_in d L O W labelsV labV _ cc0_scoped1 _ _ _ (by decide) rfl (View.set_whole _) B q g1 h1
  isplitl [HO I1 S1 G1]
  · isplitl [HO]; · iexact HO
    isplitl [I1]; · iexact I1
    isplitl [G1]; · iexact G1
    iexact S1
  iintro ⟨HO, I1, G1, T1⟩
  rw [runs_bind]
  iapply wp_in d L O W scoresV scoV _ cc0_scoped2 _ _ _ (by decide) rfl (View.set_whole _) C q g2 h2
  isplitl [HO I2 S2 G2]
  · isplitl [HO]; · iexact HO
    isplitl [I2]; · iexact I2
    isplitl [G2]; · iexact G2
    iexact S2
  iintro ⟨HO, I2, G2, T2⟩
  iapply wp_group d L O W A B C 0 cells0 _ (base_toNat L 0 (by omega)) f
  isplitl [HO J0 T0 T1 T2 HB P0]
  · isplitl [HO]; · iexact HO
    isplitl [J0]; · iexact J0
    isplitl [T0 T1 T2]
    · isplitl [T0]; · iexact T0
      isplitl [T1]; · iexact T1
      iexact T2
    isplitl [HB]; · iexact HB
    iexact P0
  iintro ⟨HO, J0, HT, HB, P0⟩
  iapply wp_group d L O W A B C 1 cells1 _ (base_toNat L 8 (by omega)) f
  isplitl [HO J1 HT HB P1]
  · isplitl [HO]; · iexact HO
    isplitl [J1]; · iexact J1
    isplitl [HT]; · iexact HT
    isplitl [HB]; · iexact HB
    iexact P1
  iintro ⟨HO, J1, ⟨T0, T1, T2⟩, HB, P1⟩
  ihave T0 := (holds_any d L detV _ _) $$ T0
  ihave T1 := (holds_any d L labV _ _) $$ T1
  ihave T2 := (holds_any d L scoV _ _) $$ T2
  iapply runs_pure d L PUnit.unit _
  isplitl [HO]; · iexact HO
  isplitl [I0 I1 I2 J0 J1]
  · isplitl [I0 I1 I2]
    · isplitl [I0]; · iexact I0
      isplitl [I1]; · iexact I1
      iexact I2
    isplitl [J0]; · iexact J0
    iexact J1
  isplitl [T0 T1 T2 HB]
  · isplitl [T0 T1 T2]
    · isplitl [T0]; · iexact T0
      isplitl [T1]; · iexact T1
      iexact T2
    iexact HB
  isplitl [G0 G1 G2]
  · isplitl [G0]; · iexact G0
    isplitl [G1]; · iexact G1
    iexact G2
  isplitl [P0]; · iexact P0
  iexact P1

end Cert.Pairs

end
-- ==== Proof.Tile.lean ====
/- The task as the launch gives it: its own semaphores and buffers among all a subcore owns. -/
module

public import proofs.«01_k».proof.Proof.Task

@[expose] public section

noncomputable section

namespace Cert.Pairs

open Idealize.ShloMosaic Cert.KernelIdeal Cert.KernelIdeal.Gen
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

/-- A listed part of a big conjunction, and the rest. -/
theorem bigSep_listed {M I : Type} [URA M] [DecidableEq I] (s : Finset I) (l : List I) (hl : l.Nodup) (hs : ∀ i ∈ l, i ∈ s) (Φ : I → sProp M) :
    bigSep s Φ = iprop(bigSepL l Φ ∗ bigSep (s \ l.toFinset) Φ) := by
  rw [← bigSep_eq_bigSepL l hl]
  exact SparseCore.bigSep_sdiff_split' (fun i hi => hs i (List.mem_toFinset.mp hi))

theorem listed_cons {M I : Type} [URA M] (i j : I) (l : List I) (Φ : I → sProp M) : bigSepL (i :: j :: l) Φ = iprop(Φ i ∗ bigSepL (j :: l) Φ) := rfl
theorem listed_one {M I : Type} [URA M] (i : I) (Φ : I → sProp M) : bigSepL [i] Φ = Φ i := rfl

/-- The copies' semaphores, in the order of the copies. -/
def sems : List (SemLoc sig) :=
  [.dma cc0_scoped0.sem, .dma cc0_scoped1.sem, .dma cc0_scoped2.sem, .dma cc0_scoped3.sem, .dma cc0_scoped4.sem, .dma cc0_scoped5.sem,
   .dma cc0_scoped6.sem, .dma cc0_scoped7.sem, .dma cc0_scoped8.sem, .dma cc0_scoped9.sem, .dma cc0_scoped10.sem, .dma cc0_scoped11.sem,
   .dma cc0_scoped12.sem, .dma cc0_scoped13.sem, .dma cc0_scoped14.sem, .dma cc0_scoped15.sem, .dma cc0_scoped16.sem, .dma cc0_scoped17.sem,
   .dma cc0_scoped18.sem, .dma cc0_scoped19.sem, .dma cc0_scoped20.sem]

theorem sems_nodup : sems.Nodup := by decide
theorem sems_scoped : ∀ x ∈ sems, x.isScoped .scVector = true := by decide

abbrev cellsL : List (GSem nD τ sig) := sems.map fun x => (thr d L, x)

/-- The other semaphores. -/
abbrev otherSems : sProp (MM F) := bigSep (ownCells (thr d L) \ (cellsL d L).toFinset) fun g => semVal g 0

theorem ownSems0_eq : (ownSems0 (thr d L) : sProp (MM F)) = iprop(bigSepL (cellsL d L) (fun g => semVal g 0) ∗ otherSems d L) := by
  unfold SparseCore.Cfg.ownSems0
  refine bigSep_listed _ (cellsL d L) (sems_nodup.map fun a b h => (Prod.mk.injEq _ _ _ _ ▸ h).2) ?_ _
  intro g hg
  obtain ⟨x, hx, rfl⟩ := List.mem_map.mp hg
  exact mem_ownCells.mpr ⟨rfl, sems_scoped x hx⟩

theorem cells_idle : (bigSepL (cellsL d L) (fun g => semVal g 0) : sProp (MM F)) ⊣⊢ AllIdle d L := by
  unfold cellsL sems
  simp only [List.map_cons, List.map_nil, listed_cons, listed_one]
  constructor
  · iintro ⟨A0, A1, A2, B0, B1, B2, B3, B4, B5, B6, B7, B8, C0, C1, C2, C3, C4, C5, C6, C7, C8⟩
    isplitl [A0 A1 A2]
    · isplitl [A0]; · iexact A0
      isplitl [A1]; · iexact A1
      iexact A2
    isplitl [B0 B1 B2 B3 B4 B5 B6 B7 B8]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    iexact C8
  · iintro ⟨⟨A0, A1, A2⟩, ⟨B0, B1, B2, B3, B4, B5, B6, B7, B8⟩, C⟩
    isplitl [A0]; · iexact A0
    isplitl [A1]; · iexact A1
    isplitl [A2]; · iexact A2
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact C

/-- The scratch buffers. -/
def scratches : List (Ref sig .scVector) :=
  [cc0_scratch0, cc0_scratch1, cc0_scratch2, cc0_scratch3, cc0_scratch4, cc0_scratch5, cc0_scratch6, cc0_scratch7, cc0_scratch8, cc0_scratch9,
   cc0_scratch10, cc0_scratch11]

theorem scratches_nodup : scratches.Nodup := by decide

abbrev refsL : List (DevRef τ sig) := scratches.map fun b => (Proc.scVector (cV L) (jV L)).devRef b

theorem refsL_own : ∀ b ∈ refsL L, b ∈ ownRefs (τ := τ) (.scVector (cV L) (jV L)) := by
  intro b hb
  simp only [refsL, scratches, List.map_cons, List.map_nil, List.mem_cons, List.not_mem_nil, or_false] at hb
  rcases hb with rfl | rfl | rfl | rfl | rfl | rfl | rfl | rfl | rfl | rfl | rfl | rfl <;>
    exact SparseCore.Cfg.mem_ownRefs_of_owner (p := Proc.scVector (cV L) (jV L)) rfl

/-- The other buffers. -/
abbrev otherBufs : sProp (MM F) :=
  bigSep (ownRefs (τ := τ) (.scVector (cV L) (jV L)) \ (refsL L).toFinset) fun b => iprop(∃ f, ((d, b) : Loc nD τ sig) ↦{fullShare} f)

theorem ownBufs_eq : (ownBufs (thr d L) : sProp (MM F))
    = iprop(bigSepL (refsL L) (fun b => iprop(∃ f, ((d, b) : Loc nD τ sig) ↦{fullShare} f)) ∗ otherBufs d L) := by
  unfold SparseCore.Cfg.ownBufs
  exact bigSep_listed _ (refsL L) (scratches_nodup.map (Proc.devRef_injective _)) (refsL_own L) _

theorem refs_scratch : (bigSepL (refsL L) (fun b => iprop(∃ f, ((d, b) : Loc nD τ sig) ↦{fullShare} f)) : sProp (MM F)) ⊣⊢ Scratch d L := by
  unfold refsL scratches
  simp only [List.map_cons, List.map_nil, listed_cons, listed_one]
  constructor
  · iintro ⟨A0, A1, A2, B0, B1, B2, C⟩
    isplitl [A0 A1 A2]
    · isplitl [A0]; · iexact A0
      isplitl [A1]; · iexact A1
      iexact A2
    isplitl [B0 B1 B2]
    · isplitl [B0]; · iexact B0
      isplitl [B1]; · iexact B1
      iexact B2
    iexact C
  · iintro ⟨⟨A0, A1, A2⟩, ⟨B0, B1, B2⟩, C⟩
    isplitl [A0]; · iexact A0
    isplitl [A1]; · iexact A1
    isplitl [A2]; · iexact A2
    isplitl [B0]; · iexact B0
    isplitl [B1]; · iexact B1
    isplitl [B2]; · iexact B2
    iexact C

theorem owing_of (O : CellTallies nD τ sig (HIx 1)) (W : Waits sig (HIx 1)) :
    iprop(Transfers.MayWaits (thr d L) (default : HIx 1) O ∗ owes (thr d L) O W) ⊢ (Owing d L O W : sProp (MM F)) := by
  unfold Owing
  iintro ⟨Hmw, HO⟩
  isplitl [Hmw]; · iexact Hmw
  iexists W
  isplitr
  · ipureintro; exact fun p hp => .inl hp
  · iexact HO

theorem owes_of_owing (O : CellTallies nD τ sig (HIx 1)) (W : Waits sig (HIx 1)) :
    (Owing d L O W : sProp (MM F)) ⊢ iprop(∃ W', ⌜∀ p ∈ W', p ∈ W ∨ p.2 = none⌝ ∗ owes (thr d L) O W') := by
  unfold Owing
  iintro ⟨-, HO⟩
  iexact HO

/-- A subcore's task, from all it owns: the inputs come back, and its blocks hold what the arithmetic says. -/
theorem tile_body (hF : (K (F := F)).Facts) (O : CellTallies nD τ sig (HIx 1)) (W : Waits sig (HIx 1)) (hO : ∀ g, O g none = 0)
    (A : ℕ → Elt F .f32) (B : ℕ → Elt F .i32) (C : ℕ → Elt F .f32)
    (q : PosShare TreeShare) (g0 : Buf (Elt F) (hbmLoc d main_v0)) (g1 : Buf (Elt F) (hbmLoc d main_arg1)) (g2 : Buf (Elt F) (hbmLoc d main_arg2))
    (h0 : ∀ p : S2560.Idx, g0 p = A (p 0).val) (h1 : ∀ p : S512.Idx, g1 p = B (p 0).val) (h2 : ∀ p : S512.Idx, g2 p = C (p 0).val) (f : Nine F d) :
    iprop(levAts (K (F := F)).L (K (F := F)).lev ∗ emp ∗ (Inputs d L q g0 g1 g2 ∗ Places d L 0 f ∗ Places d L 1 f)
        ∗ scopedBufs (V d (cV L) (jV L)) ∗ scopedSems0 (V d (cV L) (jV L)) ∗ owes (V d (cV L) (jV L)) O W)
      ⊢ Runs d L (task L) fun _ =>
        iprop((Inputs d L q g0 g1 g2 ∗ Places d L 0 (made d A B C) ∗ Places d L 1 (made d A B C))
          ∗ scopedBufs (V d (cV L) (jV L)) ∗ scopedSems0 (V d (cV L) (jV L))
          ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_eq, ownBufs_eq]
  iintro ⟨#Hlv, -, ⟨HG, HP, HR⟩, ⟨HB, HB'⟩, ⟨HS, HS'⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HB := (refs_scratch (F := F) d L).1 $$ HB
  ihave HS := (cells_idle (F := F) d L).1 $$ HS
  ihave H := (wp_task d L O W A B C q g0 g1 g2 h0 h1 h2 f) $$ [HG HP HR HB HS HO Hmw]
  · isplitl [Hmw HO]
    · iapply (owing_of d L O W)
      isplitl [Hmw]; · iexact Hmw
      iexact HO
    isplitl [HS]; · iexact HS
    isplitl [HB]; · iexact HB
    isplitl [HG]; · iexact HG
    isplitl [HP]; · iexact HP
    iexact HR
  iapply (wp_wand_r frame (wpE (defs₀ (F := F)) 𝒱₀ (thr d L) none) Set.univ)
  isplitl [H]; · iexact H
  iintro %_ ⟨HO, HS, HB, HG, HP, HR⟩
  ihave HB := (refs_scratch (F := F) d L).2 $$ HB
  ihave HS := (cells_idle (F := F) d L).2 $$ HS
  isplitl [HG HP HR]
  · isplitl [HG]; · iexact HG
    isplitl [HP]; · iexact HP
    iexact HR
  isplitl [HB HB']
  · isplitl [HB]; · iexact HB
    iexact HB'
  isplitl [HS HS']
  · isplitl [HS]; · iexact HS
    iexact HS'
  iapply (owes_of_owing d L O W)
  iexact HO

end Cert.Pairs

end
-- ==== Proof.Split.lean ====
/- The nine result arrays, whole, are the sixty-four groups' places: two SparseCores, sixteen
   subcores, two groups each. -/
module

public import proofs.«01_k».proof.Proof.Tile

@[expose] public section

noncomputable section

namespace Cert.Pairs

open Idealize.ShloMosaic Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD)

/-- The place of a subcore in the grid. -/
def coordsV (c : Fin 2) (i : Fin 16) : grid0.Coords :=
  fun | 0 => (c : Fin (grid0.bound 0)) | 1 => (i : Fin (grid0.bound 1)) | ⟨_ + 2, h⟩ => absurd h (Nat.not_lt.2 (Nat.le_add_left _ _))

theorem div_rows : 64 ∣ S1308160.size 0 := ⟨20440, rfl⟩
theorem div_pairs : 64 ∣ S261632.size 0 := ⟨4088, rfl⟩

/-- A group's number. -/
def groupOf (x : Fin 2 × Fin 16 × Fin 2) : Fin 64 := ⟨4 * x.2.1.val + 2 * x.1.val + x.2.2.val, by have := x.1.isLt; have := x.2.1.isLt; have := x.2.2.isLt; omega⟩

theorem groupOf_inj {x y : Fin 2 × Fin 16 × Fin 2} (h : groupOf x = groupOf y) : x = y := by
  obtain ⟨c, i, r⟩ := x
  obtain ⟨c', i', r'⟩ := y
  have e : 4 * i.val + 2 * c.val + r.val = 4 * i'.val + 2 * c'.val + r'.val := congrArg Fin.val h
  have := c.isLt; have := c'.isLt; have := r.isLt; have := r'.isLt
  rw [show c = c' from Fin.ext (by omega), show i = i' from Fin.ext (by omega), show r = r' from Fin.ext (by omega)]

theorem groupOf_surj (g : Fin 64) : ∃ x, groupOf x = g := by
  have := g.isLt
  exact ⟨(⟨g.val / 2 % 2, by omega⟩, ⟨g.val / 4, by omega⟩, ⟨g.val % 2, by omega⟩), Fin.ext (by show 4 * (g.val / 4) + 2 * (g.val / 2 % 2) + g.val % 2 = _; omega)⟩

theorem rowsR_eq (x : Fin 2 × Fin 16 × Fin 2) : rowsR (coordsV x.1 x.2.1) x.2.2 = Rect.part (s := S1308160) (a₀ := 0) div_rows (groupOf x) := by
  unfold rowsR Rect.part Rect.block
  congr 1 <;> funext a
  · rw [k0_off7_eq]
    match a with
    | 0 => simp [Shape.partIx, Shape.partSize, groupOf, coordsV]; omega
  · match a with
    | 0 => simp [Shape.partSize]

theorem pairsR_eq (x : Fin 2 × Fin 16 × Fin 2) : pairsR (coordsV x.1 x.2.1) x.2.2 = Rect.part (s := S261632) (a₀ := 0) div_pairs (groupOf x) := by
  unfold pairsR Rect.part Rect.block
  congr 1 <;> funext a
  · rw [k0_off8_eq]
    match a with
    | 0 => simp [Shape.partIx, Shape.partSize, groupOf, coordsV]; omega
  · match a with
    | 0 => simp [Shape.partSize]

/-- An array whose parts are the groups' is held whole when each group's part is. -/
theorem split_groups {ℓ : Loc nD τ sig} (Kx : Fin 64 → Finset (Idx ℓ)) (hd : ∀ g g', g ≠ g' → Disjoint (Kx g) (Kx g'))
    (hc : Finset.univ.biUnion Kx = Finset.univ) (f : Buf (Elt F) ℓ) :
    (ℓ ↦{fullShare} f : sProp (MM F))
      = bigSep Finset.univ fun c : Fin 2 => bigSep Finset.univ fun i : Fin 16 =>
          iprop((ℓ ↦[Kx (groupOf (c, i, 0))]{fullShare} f) ∗ ℓ ↦[Kx (groupOf (c, i, 1))]{fullShare} f) := by
  have h1 : (ℓ ↦{fullShare} f : sProp (MM F)) = bigSep Finset.univ fun x : Fin 2 × Fin 16 × Fin 2 => ℓ ↦[Kx (groupOf x)]{fullShare} f := by
    rw [← pointsTo_biUnion Finset.univ (ℓ := ℓ) (fun x => Kx (groupOf x)) fun x _ y _ h => hd _ _ fun e => h (groupOf_inj e)]
    congr 1
    rw [← hc]
    ext p
    simp only [Finset.mem_biUnion, Finset.mem_univ, true_and]
    constructor
    · rintro ⟨g, hg⟩
      obtain ⟨x, rfl⟩ := groupOf_surj g
      exact ⟨x, hg⟩
    · rintro ⟨x, hx⟩
      exact ⟨_, hx⟩
  rw [h1, bigSep_univ_prod]
  refine bigSep_congr fun c _ => ?_
  rw [bigSep_univ_prod]
  refine bigSep_congr fun i _ => ?_
  rw [show (Finset.univ : Finset (Fin 2)) = {0, 1} by decide, SparseCore.bigSep_insert' (by decide), bigSep_singleton]

theorem cover_map {I α β : Type} [Fintype I] [Fintype α] [Fintype β] [DecidableEq α] [DecidableEq β] (e : α ↪ β) (he : ∀ b, ∃ a, e a = b)
    (S : I → Finset α) (hS : Finset.univ.biUnion S = Finset.univ) : (Finset.univ.biUnion fun g => (S g).map e) = Finset.univ := by
  refine Finset.eq_univ_iff_forall.mpr fun b => ?_
  obtain ⟨a, rfl⟩ := he b
  obtain ⟨g, -, hg⟩ := Finset.mem_biUnion.mp (hS.symm ▸ Finset.mem_univ a)
  exact Finset.mem_biUnion.mpr ⟨g, Finset.mem_univ g, Finset.mem_map.mpr ⟨a, hg, rfl⟩⟩

theorem split_rows {ℓ : Loc nD τ sig} (e : S1308160.Idx ↪ Idx ℓ) (he : ∀ b, ∃ a, e a = b) (Kx : Fin 2 → Fin 16 → Fin 2 → Finset (Idx ℓ))
    (hK : ∀ c i r, Kx c i r = (rowsR (coordsV c i) r).set.map e) (f : Buf (Elt F) ℓ) :
    (ℓ ↦{fullShare} f : sProp (MM F))
      = bigSep Finset.univ fun c : Fin 2 => bigSep Finset.univ fun i : Fin 16 => iprop((ℓ ↦[Kx c i 0]{fullShare} f) ∗ ℓ ↦[Kx c i 1]{fullShare} f) := by
  rw [split_groups (fun g => (Rect.part (s := S1308160) (a₀ := 0) div_rows g).set.map e)
    (fun g g' h => (Finset.disjoint_map _).mpr (Rect.part_disjoint div_rows h))
    (cover_map e he _ (Rect.biUnion_part div_rows))]
  refine bigSep_congr fun c _ => bigSep_congr fun i _ => ?_
  rw [hK c i 0, hK c i 1, rowsR_eq (c, i, 0), rowsR_eq (c, i, 1)]

theorem split_pairs {ℓ : Loc nD τ sig} (e : S261632.Idx ↪ Idx ℓ) (he : ∀ b, ∃ a, e a = b) (Kx : Fin 2 → Fin 16 → Fin 2 → Finset (Idx ℓ))
    (hK : ∀ c i r, Kx c i r = (pairsR (coordsV c i) r).set.map e) (f : Buf (Elt F) ℓ) :
    (ℓ ↦{fullShare} f : sProp (MM F))
      = bigSep Finset.univ fun c : Fin 2 => bigSep Finset.univ fun i : Fin 16 => iprop((ℓ ↦[Kx c i 0]{fullShare} f) ∗ ℓ ↦[Kx c i 1]{fullShare} f) := by
  rw [split_groups (fun g => (Rect.part (s := S261632) (a₀ := 0) div_pairs g).set.map e)
    (fun g g' h => (Finset.disjoint_map _).mpr (Rect.part_disjoint div_pairs h))
    (cover_map e he _ (Rect.biUnion_part div_pairs))]
  refine bigSep_congr fun c _ => bigSep_congr fun i _ => ?_
  rw [hK c i 0, hK c i 1, pairsR_eq (c, i, 0), pairsR_eq (c, i, 1)]

/-- The nine arrays, whole. -/
abbrev Whole (f : Nine F d) : sProp (MM F) :=
  iprop((hbmLoc d main_v1_0 ↦{fullShare} f.sbj) ∗ (hbmLoc d main_v1_1 ↦{fullShare} f.obj) ∗ (hbmLoc d main_v1_2 ↦{fullShare} f.rel)
    ∗ (hbmLoc d main_v1_3 ↦{fullShare} f.slab) ∗ (hbmLoc d main_v1_4 ↦{fullShare} f.olab) ∗ (hbmLoc d main_v1_5 ↦{fullShare} f.ssco)
    ∗ (hbmLoc d main_v1_6 ↦{fullShare} f.osco) ∗ (hbmLoc d main_v1_7 ↦{fullShare} f.sind) ∗ hbmLoc d main_v1_8 ↦{fullShare} f.oind)

/-- Two groups' places in one array. -/
abbrev TwoRows (c : Fin 2) (i : Fin 16) (R : Memref sig .scVector .hbm S1308160 .f32) (f : Buf (Elt F) (R.view.loc (thr d (coordsV c i)))) : sProp (MM F) :=
  iprop(RowsAt d (coordsV c i) R 0 f ∗ RowsAt d (coordsV c i) R 1 f)
abbrev TwoPairs (c : Fin 2) (i : Fin 16) {e : EltTy} (R : Memref sig .scVector .hbm S261632 e) (f : Buf (Elt F) (R.view.loc (thr d (coordsV c i)))) :
    sProp (MM F) :=
  iprop(PairsAt d (coordsV c i) R 0 f ∗ PairsAt d (coordsV c i) R 1 f)

theorem places_gather (c : Fin 2) (i : Fin 16) (f : Nine F d) :
    iprop(Places d (coordsV c i) 0 f ∗ Places d (coordsV c i) 1 f)
      ⊢ iprop(TwoRows d c i sbjO f.sbj ∗ TwoRows d c i objO f.obj ∗ TwoRows d c i relO f.rel ∗ TwoPairs d c i slabO f.slab ∗ TwoPairs d c i olabO f.olab
          ∗ TwoPairs d c i sscoO f.ssco ∗ TwoPairs d c i oscoO f.osco ∗ TwoPairs d c i sindO f.sind ∗ TwoPairs d c i oindO f.oind) := by
  iintro ⟨⟨A0, A1, A2, A3, A4, A5, A6, A7, A8⟩, ⟨B0, B1, B2, B3, B4, B5, B6, B7, B8⟩⟩
  isplitl [A0 B0]
  · isplitl [A0]; · iexact A0
    iexact B0
  isplitl [A1 B1]
  · isplitl [A1]; · iexact A1
    iexact B1
  isplitl [A2 B2]
  · isplitl [A2]; · iexact A2
    iexact B2
  isplitl [A3 B3]
  · isplitl [A3]; · iexact A3
    iexact B3
  isplitl [A4 B4]
  · isplitl [A4]; · iexact A4
    iexact B4
  isplitl [A5 B5]
  · isplitl [A5]; · iexact A5
    iexact B5
  isplitl [A6 B6]
  · isplitl [A6]; · iexact A6
    iexact B6
  isplitl [A7 B7]
  · isplitl [A7]; · iexact A7
    iexact B7
  isplitl [A8]; · iexact A8
  iexact B8

theorem places_scatter (c : Fin 2) (i : Fin 16) (f : Nine F d) :
    iprop(TwoRows d c i sbjO f.sbj ∗ TwoRows d c i objO f.obj ∗ TwoRows d c i relO f.rel ∗ TwoPairs d c i slabO f.slab ∗ TwoPairs d c i olabO f.olab
          ∗ TwoPairs d c i sscoO f.ssco ∗ TwoPairs d c i oscoO f.osco ∗ TwoPairs d c i sindO f.sind ∗ TwoPairs d c i oindO f.oind)
      ⊢ iprop(Places d (coordsV c i) 0 f ∗ Places d (coordsV c i) 1 f) := by
  iintro ⟨⟨A0, B0⟩, ⟨A1, B1⟩, ⟨A2, B2⟩, ⟨A3, B3⟩, ⟨A4, B4⟩, ⟨A5, B5⟩, ⟨A6, B6⟩, ⟨A7, B7⟩, ⟨A8, B8⟩⟩
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

theorem places_eq (c : Fin 2) (i : Fin 16) (f : Nine F d) :
    iprop(Places d (coordsV c i) 0 f ∗ Places d (coordsV c i) 1 f)
      = iprop(TwoRows d c i sbjO f.sbj ∗ TwoRows d c i objO f.obj ∗ TwoRows d c i relO f.rel ∗ TwoPairs d c i slabO f.slab ∗ TwoPairs d c i olabO f.olab
          ∗ TwoPairs d c i sscoO f.ssco ∗ TwoPairs d c i oscoO f.osco ∗ TwoPairs d c i sindO f.sind ∗ TwoPairs d c i oindO f.oind) :=
  BI.Entails.antisymm (places_gather d c i f) (places_scatter d c i f)

theorem bigSep_all {M : Type} [URA M] (P Q : Fin 2 → Fin 16 → sProp M) :
    (bigSep Finset.univ fun c => bigSep Finset.univ fun i => iprop(P c i ∗ Q c i))
      = iprop((bigSep Finset.univ fun c => bigSep Finset.univ fun i => P c i) ∗ bigSep Finset.univ fun c => bigSep Finset.univ fun i => Q c i) := by
  rw [← bigSep_sep']
  exact bigSep_congr fun c _ => bigSep_sep' _ _ _

theorem rows_sets (R : Memref sig .scVector .hbm S1308160 .f32) (c : Fin 2) (i : Fin 16) (r : Fin 2) :
    (R.slice (rowsR (coordsV c i) r) (fun _ => rfl)).view.set = (rowsR (coordsV c i) r).set.map R.view.emb := View.set_slice R.view _
theorem pairs_sets {e : EltTy} (R : Memref sig .scVector .hbm S261632 e) (c : Fin 2) (i : Fin 16) (r : Fin 2) :
    (R.slice (pairsR (coordsV c i) r) (fun _ => rfl)).view.set = (pairsR (coordsV c i) r).set.map R.view.emb := View.set_slice R.view _

theorem split_sbj (f : Buf (Elt F) (hbmLoc d main_v1_0)) :
    (hbmLoc d main_v1_0 ↦{fullShare} f : sProp (MM F)) = bigSep Finset.univ fun c : Fin 2 => bigSep Finset.univ fun i : Fin 16 => TwoRows d c i sbjO f :=
  split_rows (ℓ := hbmLoc d main_v1_0) sbjO.view.emb (fun p : Idx (hbmLoc d main_v1_0) => ⟨p, rfl⟩) _ (rows_sets sbjO) f
theorem split_obj (f : Buf (Elt F) (hbmLoc d main_v1_1)) :
    (hbmLoc d main_v1_1 ↦{fullShare} f : sProp (MM F)) = bigSep Finset.univ fun c : Fin 2 => bigSep Finset.univ fun i : Fin 16 => TwoRows d c i objO f :=
  split_rows (ℓ := hbmLoc d main_v1_1) objO.view.emb (fun p : Idx (hbmLoc d main_v1_1) => ⟨p, rfl⟩) _ (rows_sets objO) f
theorem split_rel (f : Buf (Elt F) (hbmLoc d main_v1_2)) :
    (hbmLoc d main_v1_2 ↦{fullShare} f : sProp (MM F)) = bigSep Finset.univ fun c : Fin 2 => bigSep Finset.univ fun i : Fin 16 => TwoRows d c i relO f :=
  split_rows (ℓ := hbmLoc d main_v1_2) relO.view.emb (fun p : Idx (hbmLoc d main_v1_2) => ⟨p, rfl⟩) _ (rows_sets relO) f
theorem split_slab (f : Buf (Elt F) (hbmLoc d main_v1_3)) :
    (hbmLoc d main_v1_3 ↦{fullShare} f : sProp (MM F)) = bigSep Finset.univ fun c : Fin 2 => bigSep Finset.univ fun i : Fin 16 => TwoPairs d c i slabO f :=
  split_pairs (ℓ := hbmLoc d main_v1_3) slabO.view.emb (fun p : Idx (hbmLoc d main_v1_3) => ⟨p, rfl⟩) _ (pairs_sets slabO) f
theorem split_olab (f : Buf (Elt F) (hbmLoc d main_v1_4)) :
    (hbmLoc d main_v1_4 ↦{fullShare} f : sProp (MM F)) = bigSep Finset.univ fun c : Fin 2 => bigSep Finset.univ fun i : Fin 16 => TwoPairs d c i olabO f :=
  split_pairs (ℓ := hbmLoc d main_v1_4) olabO.view.emb (fun p : Idx (hbmLoc d main_v1_4) => ⟨p, rfl⟩) _ (pairs_sets olabO) f
theorem split_ssco (f : Buf (Elt F) (hbmLoc d main_v1_5)) :
    (hbmLoc d main_v1_5 ↦{fullShare} f : sProp (MM F)) = bigSep Finset.univ fun c : Fin 2 => bigSep Finset.univ fun i : Fin 16 => TwoPairs d c i sscoO f :=
  split_pairs (ℓ := hbmLoc d main_v1_5) sscoO.view.emb (fun p : Idx (hbmLoc d main_v1_5) => ⟨p, rfl⟩) _ (pairs_sets sscoO) f
theorem split_osco (f : Buf (Elt F) (hbmLoc d main_v1_6)) :
    (hbmLoc d main_v1_6 ↦{fullShare} f : sProp (MM F)) = bigSep Finset.univ fun c : Fin 2 => bigSep Finset.univ fun i : Fin 16 => TwoPairs d c i oscoO f :=
  split_pairs (ℓ := hbmLoc d main_v1_6) oscoO.view.emb (fun p : Idx (hbmLoc d main_v1_6) => ⟨p, rfl⟩) _ (pairs_sets oscoO) f
theorem split_sind (f : Buf (Elt F) (hbmLoc d main_v1_7)) :
    (hbmLoc d main_v1_7 ↦{fullShare} f : sProp (MM F)) = bigSep Finset.univ fun c : Fin 2 => bigSep Finset.univ fun i : Fin 16 => TwoPairs d c i sindO f :=
  split_pairs (ℓ := hbmLoc d main_v1_7) sindO.view.emb (fun p : Idx (hbmLoc d main_v1_7) => ⟨p, rfl⟩) _ (pairs_sets sindO) f
theorem split_oind (f : Buf (Elt F) (hbmLoc d main_v1_8)) :
    (hbmLoc d main_v1_8 ↦{fullShare} f : sProp (MM F)) = bigSep Finset.univ fun c : Fin 2 => bigSep Finset.univ fun i : Fin 16 => TwoPairs d c i oindO f :=
  split_pairs (ℓ := hbmLoc d main_v1_8) oindO.view.emb (fun p : Idx (hbmLoc d main_v1_8) => ⟨p, rfl⟩) _ (pairs_sets oindO) f

/-- The nine arrays are the groups' places in them. -/
theorem whole_eq (f : Nine F d) :
    Whole d f = bigSep Finset.univ fun c : Fin 2 => bigSep Finset.univ fun i : Fin 16 =>
      iprop(Places d (coordsV c i) 0 f ∗ Places d (coordsV c i) 1 f) := by
  simp only [places_eq]
  rw [bigSep_all (fun c i => TwoRows d c i sbjO f.sbj), ← split_sbj d f.sbj,
    bigSep_all (fun c i => TwoRows d c i objO f.obj), ← split_obj d f.obj,
    bigSep_all (fun c i => TwoRows d c i relO f.rel), ← split_rel d f.rel,
    bigSep_all (fun c i => TwoPairs d c i slabO f.slab), ← split_slab d f.slab,
    bigSep_all (fun c i => TwoPairs d c i olabO f.olab), ← split_olab d f.olab,
    bigSep_all (fun c i => TwoPairs d c i sscoO f.ssco), ← split_ssco d f.ssco,
    bigSep_all (fun c i => TwoPairs d c i oscoO f.osco), ← split_osco d f.osco,
    bigSep_all (fun c i => TwoPairs d c i sindO f.sind), ← split_sind d f.sind, ← split_oind d f.oind]

/-- A subcore's share of an input. -/
abbrev shareOf (c : Fin 2) (i : Fin 16) : PosShare TreeShare := ShareLeaves.leaf 4 (ShareLeaves.leaf 1 fullShare c) i

theorem split_shares {ℓ : Loc nD τ sig} (f : Buf (Elt F) ℓ) :
    (ℓ ↦{fullShare} f : sProp (MM F)) = bigSep Finset.univ fun c : Fin 2 => bigSep Finset.univ fun i : Fin 16 => ℓ ↦{shareOf c i} f := by
  rw [ShareLeaves.pointsTo_leaves Finset.univ f 1 fullShare]
  exact bigSep_congr fun c _ => ShareLeaves.pointsTo_leaves Finset.univ f 4 _

/-- The three inputs are the subcores' shares of them. -/
theorem inputs_eq (g0 : Buf (Elt F) (hbmLoc d main_v0)) (g1 : Buf (Elt F) (hbmLoc d main_arg1)) (g2 : Buf (Elt F) (hbmLoc d main_arg2)) :
    (iprop((hbmLoc d main_v0 ↦{fullShare} g0) ∗ (hbmLoc d main_arg1 ↦{fullShare} g1) ∗ hbmLoc d main_arg2 ↦{fullShare} g2) : sProp (MM F))
      = bigSep Finset.univ fun c : Fin 2 => bigSep Finset.univ fun i : Fin 16 => Inputs d (coordsV c i) (shareOf c i) g0 g1 g2 := by
  rw [bigSep_all, bigSep_all, split_shares g0, split_shares g1, split_shares g2]

end Cert.Pairs

end
-- ==== Proof.Launch.lean ====
/- The launch: what each subcore is handed and hands back, the program on the TensorCore around the
   call, and the run of the whole program with every array's value. -/
module

public import proofs.«01_k».proof.Proof.Split
public import Idealize.ShloMosaic.Lib.Pipeline.Frame

@[expose] public section

noncomputable section

namespace Cert.Pairs

open Idealize.ShloMosaic Cert.KernelIdeal Cert.KernelIdeal.Gen
open Idealize.ShloMosaic.SparseCore (S V T)
open Idealize.ShloMosaic.SparseCore.Cfg (HIx)
open Idealize.ShloMosaic.StableHlo (held wp_hlo_within)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg) (d : Dev nD)

/-! ## The values -/

abbrev ref (b : Ref sig .tc) : DevRef τ sig := Proc.devRef .tc b

abbrev opIn : HloOp τ sig (Elt F) := StableHlo.reshape main_arg0 main_v0 (rfl : (.f32 : EltTy) = .f32) shapeCasts_S512x5_S2560
abbrev opC : HloOp τ sig (Elt F) := StableHlo.nullary main_c (constantI S_ 32 261632#32)
abbrev opN : HloOp τ sig (Elt F) :=
  StableHlo.unary main_c main_v2 (broadcastInDim S1 ![] bcast_S_S1 : (⟨S_, .i32⟩ : BufTy).Contents (Elt F) → (⟨S1, .i32⟩ : BufTy).Contents (Elt F))
abbrev opSbj : HloOp τ sig (Elt F) := StableHlo.reshape main_v1_0 main_v3 (rfl : (.f32 : EltTy) = .f32) shapeCasts_S1308160_S261632x5
abbrev opObj : HloOp τ sig (Elt F) := StableHlo.reshape main_v1_1 main_v4 (rfl : (.f32 : EltTy) = .f32) shapeCasts_S1308160_S261632x5
abbrev opRel : HloOp τ sig (Elt F) := StableHlo.reshape main_v1_2 main_v5 (rfl : (.f32 : EltTy) = .f32) shapeCasts_S1308160_S261632x5

/-- The arrays at the launch, and at the call. -/
def atLaunch : Valuation τ sig (Elt F) := fun b => m (d, b)
def atCall : Valuation τ sig (Elt F) := (opIn (F := F)).result (atLaunch m d)

/-- The boxes, laid flat. -/
def flat : Buf (Elt F) (hbmLoc d main_v0) := atCall m d (ref main_v0)

/-- The three inputs by flat positions. -/
def boxAt (n : ℕ) : Elt F .f32 := (flat m d : S2560.Idx → Elt F .f32) fun | 0 => ⟨n % 2560, Nat.mod_lt _ (by decide)⟩
def labelAt (n : ℕ) : Elt F .i32 := (m (hbmLoc d main_arg1) : S512.Idx → Elt F .i32) fun | 0 => ⟨n % 512, Nat.mod_lt _ (by decide)⟩
def scoreAt (n : ℕ) : Elt F .f32 := (m (hbmLoc d main_arg2) : S512.Idx → Elt F .f32) fun | 0 => ⟨n % 512, Nat.mod_lt _ (by decide)⟩

theorem flat_eq (p : S2560.Idx) : (flat m d : S2560.Idx → Elt F .f32) p = boxAt m d (p 0).val := by
  unfold boxAt
  congr 1
  funext a
  match a with
  | 0 => exact Fin.ext (Nat.mod_eq_of_lt (p 0).isLt).symm
theorem label_eq (p : S512.Idx) : (m (hbmLoc d main_arg1) : S512.Idx → Elt F .i32) p = labelAt m d (p 0).val := by
  unfold labelAt
  congr 1
  funext a
  match a with
  | 0 => exact Fin.ext (Nat.mod_eq_of_lt (p 0).isLt).symm
theorem score_eq (p : S512.Idx) : (m (hbmLoc d main_arg2) : S512.Idx → Elt F .f32) p = scoreAt m d (p 0).val := by
  unfold scoreAt
  congr 1
  funext a
  match a with
  | 0 => exact Fin.ext (Nat.mod_eq_of_lt (p 0).isLt).symm

/-- The nine result arrays before the call, and after it. -/
def before : Nine F d :=
  ⟨m (hbmLoc d main_v1_0), m (hbmLoc d main_v1_1), m (hbmLoc d main_v1_2), m (hbmLoc d main_v1_3), m (hbmLoc d main_v1_4), m (hbmLoc d main_v1_5),
    m (hbmLoc d main_v1_6), m (hbmLoc d main_v1_7), m (hbmLoc d main_v1_8)⟩
def results : Nine F d := made d (boxAt m d) (labelAt m d) (scoreAt m d)

/-- A valuation with the nine at `f`. -/
def setNine (W : Valuation τ sig (Elt F)) (f : Nine F d) : Valuation τ sig (Elt F) :=
  Function.update (Function.update (Function.update (Function.update (Function.update (Function.update (Function.update (Function.update (Function.update W
    (ref main_v1_0) f.sbj) (ref main_v1_1) f.obj) (ref main_v1_2) f.rel) (ref main_v1_3) f.slab) (ref main_v1_4) f.olab) (ref main_v1_5) f.ssco)
    (ref main_v1_6) f.osco) (ref main_v1_7) f.sind) (ref main_v1_8) f.oind

/-- The arrays after the call, and at the end. -/
def afterCall : Valuation τ sig (Elt F) := setNine d (atCall m d) (results m d)
def atEnd : Valuation τ sig (Elt F) :=
  (opRel (F := F)).result ((opObj (F := F)).result ((opSbj (F := F)).result ((opN (F := F)).result ((opC (F := F)).result (afterCall m d)))))

/-! ## What the handshakes carry -/

abbrev Ins (c : Fin 2) (i : Fin 16) : sProp (MM F) :=
  Inputs d (coordsV c i) (shareOf c i) (flat m d) (m (hbmLoc d main_arg1)) (m (hbmLoc d main_arg2))
def Handed (c : Fin 2) (i : Fin 16) (f : Nine F d) : sProp (MM F) :=
  iprop(Ins m d c i ∗ Places d (coordsV c i) 0 f ∗ Places d (coordsV c i) 1 f)

instance handed_storable (c : Fin 2) (i : Fin 16) (f : Nine F d) : BI.Storable (upEmb : UEmb _ (MM F)) (Handed m d c i f) := by
  unfold Handed
  infer_instance

/-- What one core's sixteen subcores are handed together. -/
def Share (c : Fin 2) (f : Nine F d) : sProp (MM F) := bigSep Finset.univ fun i : Fin 16 => Handed m d c i f

instance share_storable (c : Fin 2) (f : Nine F d) : BI.Storable (upEmb : UEmb _ (MM F)) (Share m d c f) := by
  unfold Share
  infer_instance

/-- Each SparseCore is handed its sixteen subcores' shares and places, and hands them back filled. -/
def P : (K (F := F)).Pay (nD := nD) (Val := Elt F) (Name := ℕ) (U := UU) where
  st := fun q d c => match q with | 0 => Share m d (Fin.cast nCore_zero c) (before m d)
  dn := fun q d c => match q with | 0 => Share m d (Fin.cast nCore_zero c) (results m d)
  go := fun q d c i => match q with | 0 => Handed m d (Fin.cast nCore_zero c) (Fin.cast nSub_zero i) (before m d)
  td := fun q d c i => match q with | 0 => Handed m d (Fin.cast nCore_zero c) (Fin.cast nSub_zero i) (results m d)
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-! ## The obligation of a task -/

theorem defs₀_vector (c : Fin τ.nSC) (s : Fin τ.nSub) :
    defs₀ (F := F) (.scVector c s) 0 () = SparseCore.onTile hcore0 hsub0 (fun c s => task (F := F) (coordsV c s)) ⟨⟩ c s := by
  simp only [← cc0_k_eq_task]
  rfl

theorem obl_post {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  change iprop(_ ∗ _ ∗ Handed m d _ _ _ ∗ _) ⊢ wp _ _ _ _ (fun _ => iprop(Handed m d _ _ _ ∗ _))
  unfold Handed
  simp only [SparseCore.onTile, hci, and_self, ↓reduceDIte]
  exact (tile_body d (coordsV ⟨_, hci.1⟩ ⟨_, hci.2⟩) hF O W hO (boxAt m d) (labelAt m d) (scoreAt m d) (shareOf ⟨_, hci.1⟩ ⟨_, hci.2⟩)
    (flat m d) (m (hbmLoc d main_arg1)) (m (hbmLoc d main_arg2)) (flat_eq m d) (label_eq m d) (score_eq m d) (before m d)).trans
      (wp_mono frame _ _ fun _ => obl_post)

theorem bigSep_subs (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

theorem plain_split (Φ Ψ : Fin 16 → sProp (MM F)) :
    bigSep Finset.univ Φ ⊢ |={Set.univ}=> iprop((bigSep Finset.univ fun i : Fin ((K (F := F)).nSub 0) => Φ (Fin.cast nSub_zero i))
      ∗ ((bigSep Finset.univ fun i : Fin ((K (F := F)).nSub 0) => Ψ (Fin.cast nSub_zero i)) -∗ bigSep Finset.univ Ψ)) := by
  rw [bigSep_subs, bigSep_subs]
  iintro H
  imodintro
  isplitl [H]; · iexact H
  iintro H
  iexact H

theorem st_eq (c : Fin ((K (F := F)).nCore 0)) : (P m).st 0 d c = Share m d (Fin.cast nCore_zero c) (before m d) := by
  cases c; rfl
theorem dn_eq (c : Fin ((K (F := F)).nCore 0)) : (P m).dn 0 d c = Share m d (Fin.cast nCore_zero c) (results m d) := by
  cases c; rfl
theorem go_eq (c : Fin ((K (F := F)).nCore 0)) (i : Fin ((K (F := F)).nSub 0)) :
    (P m).go 0 d c i = Handed m d (Fin.cast nCore_zero c) (Fin.cast nSub_zero i) (before m d) := by
  cases c; rfl
theorem td_eq (c : Fin ((K (F := F)).nCore 0)) (i : Fin ((K (F := F)).nSub 0)) :
    (P m).td 0 d c i = Handed m d (Fin.cast nCore_zero c) (Fin.cast nSub_zero i) (results m d) := by
  cases c; rfl

theorem share_split (c : Fin 2) (f g : Nine F d) :
    Share m d c f ⊢ |={Set.univ}=> iprop((bigSep Finset.univ fun i : Fin ((K (F := F)).nSub 0) => Handed m d c (Fin.cast nSub_zero i) f)
      ∗ ((bigSep Finset.univ fun i : Fin ((K (F := F)).nSub 0) => Handed m d c (Fin.cast nSub_zero i) g) -∗ Share m d c g)) :=
  plain_split (fun i => Handed m d c i f) (fun i => Handed m d c i g)

theorem vecSplit : (K (F := F)).VecSplit' (P m) 0 := by
  intro d c
  simp only [st_eq, dn_eq, go_eq, td_eq]
  exact share_split m d _ _ _

/-! ## The launch's own state -/

def u₀ : UU := (initOf (K (F := F)).hsCells (K (F := F)).hsToks, 1)

theorem bigSep_none {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

end Cert.Pairs

end
-- ==== Proof.Main.lean ====
/- The program on the TensorCore: the boxes laid flat, the call with the arrays it reads and fills, the operations after
   it; then the run of the whole program, with every array's value at the end. -/
module

public import proofs.«01_k».proof.Proof.Launch

@[expose] public section

noncomputable section

namespace Cert.Pairs

open Idealize.ShloMosaic Cert.KernelIdeal Cert.KernelIdeal.Gen
open Idealize.ShloMosaic.SparseCore (S V T)
open Idealize.ShloMosaic.SparseCore.Cfg (HIx)
open Idealize.ShloMosaic.StableHlo (held wp_hlo_within)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg) (d : Dev nD)

/-! ## The arrays the call takes, out of all arrays -/

/-- The arrays the call reads, then those it fills. -/
def called : List (Ref sig .tc) :=
  [main_v0, main_arg1, main_arg2, main_v1_0, main_v1_1, main_v1_2, main_v1_3, main_v1_4, main_v1_5, main_v1_6, main_v1_7, main_v1_8]
def calledRefs : List (DevRef τ sig) := called.map (Proc.devRef .tc)

theorem called_nodup : called.Nodup := by decide
theorem called_unscoped : ∀ b ∈ called, ¬ (ref b).isScoped := by decide

theorem mem_uc (b : Ref sig .tc) (h : ¬ (ref b).isScoped) : ref b ∈ ucRefs τ sig :=
  Finset.mem_filter.mpr ⟨Finset.mem_map.mpr ⟨b, Finset.mem_univ _, rfl⟩, h⟩

/-- All arrays the call does not take. -/
def Rest (W : Valuation τ sig (Elt F)) : sProp (MM F) :=
  bigSep (ucRefs τ sig \ calledRefs.toFinset) fun b => ((d, b) : Loc nD τ sig) ↦{fullShare} W b

theorem held_parts (W : Valuation τ sig (Elt F)) :
    (held (T d : Thread nD τ) (ucRefs τ sig) W : sProp (MM F))
      = iprop(bigSepL calledRefs (fun b => ((d, b) : Loc nD τ sig) ↦{fullShare} W b) ∗ Rest d W) := by
  refine bigSep_listed _ calledRefs (called_nodup.map (Proc.devRef_injective _)) ?_ _
  intro b hb
  obtain ⟨x, hx, rfl⟩ := List.mem_map.mp hb
  exact mem_uc x (called_unscoped x hx)

/-- The nine arrays of a valuation. -/
def nineOf (W : Valuation τ sig (Elt F)) : Nine F d :=
  ⟨W (ref main_v1_0), W (ref main_v1_1), W (ref main_v1_2), W (ref main_v1_3), W (ref main_v1_4), W (ref main_v1_5),
    W (ref main_v1_6), W (ref main_v1_7), W (ref main_v1_8)⟩

/-- The three arrays read, whole. -/
abbrev Read (g0 : Buf (Elt F) (hbmLoc d main_v0)) (g1 : Buf (Elt F) (hbmLoc d main_arg1)) (g2 : Buf (Elt F) (hbmLoc d main_arg2)) : sProp (MM F) :=
  iprop((hbmLoc d main_v0 ↦{fullShare} g0) ∗ (hbmLoc d main_arg1 ↦{fullShare} g1) ∗ hbmLoc d main_arg2 ↦{fullShare} g2)

theorem listed_take (W : Valuation τ sig (Elt F)) :
    (bigSepL calledRefs (fun b => ((d, b) : Loc nD τ sig) ↦{fullShare} W b) : sProp (MM F))
      ⊢ iprop(Read d (W (ref main_v0)) (W (ref main_arg1)) (W (ref main_arg2)) ∗ Whole d (nineOf d W)) := by
  unfold calledRefs called
  simp only [List.map_cons, List.map_nil, listed_cons, listed_one]
  iintro ⟨A0, A1, A2, B⟩
  isplitl [A0 A1 A2]
  · isplitl [A0]; · iexact A0
    isplitl [A1]; · iexact A1
    iexact A2
  iexact B

theorem listed_give (W : Valuation τ sig (Elt F)) :
    iprop(Read d (W (ref main_v0)) (W (ref main_arg1)) (W (ref main_arg2)) ∗ Whole d (nineOf d W))
      ⊢ (bigSepL calledRefs (fun b => ((d, b) : Loc nD τ sig) ↦{fullShare} W b) : sProp (MM F)) := by
  unfold calledRefs called
  simp only [List.map_cons, List.map_nil, listed_cons, listed_one]
  iintro ⟨⟨A0, A1, A2⟩, B⟩
  isplitl [A0]; · iexact A0
  isplitl [A1]; · iexact A1
  isplitl [A2]; · iexact A2
  iexact B

/-! ## What the call is handed, in all -/

theorem shares_eq (f : Nine F d) :
    (bigSep Finset.univ fun c : Fin 2 => Share m d c f) = iprop(Read d (flat m d) (m (hbmLoc d main_arg1)) (m (hbmLoc d main_arg2)) ∗ Whole d f) := by
  unfold Share Handed
  rw [bigSep_all (fun c i => Ins m d c i), ← whole_eq, ← inputs_eq]

theorem st0_eq : (bigSep Finset.univ fun c : Fin ((K (F := F)).nCore 0) => (P m).st 0 d c)
    = iprop(Read d (flat m d) (m (hbmLoc d main_arg1)) (m (hbmLoc d main_arg2)) ∗ Whole d (before m d)) := by
  rw [← shares_eq, ← bigSep_cores]
  exact bigSep_congr fun c _ => st_eq m d c

theorem dn0_eq : (bigSep Finset.univ fun c : Fin ((K (F := F)).nCore 0) => (P m).dn 0 d c)
    = iprop(Read d (flat m d) (m (hbmLoc d main_arg1)) (m (hbmLoc d main_arg2)) ∗ Whole d (results m d)) := by
  rw [← shares_eq, ← bigSep_cores]
  exact bigSep_congr fun c _ => dn_eq m d c

/-! ## The valuations, read back -/

theorem in_other (W : Valuation τ sig (Elt F)) (b : Ref sig .tc) (h : b ≠ main_v0) : (opIn (F := F)).result W (ref b) = W (ref b) :=
  StableHlo.reshape_result_ne _ _ _ _ _ _ W h

theorem atCall_other (b : Ref sig .tc) (h : b ≠ main_v0) : atCall m d (ref b) = m (d, ref b) := in_other (atLaunch m d) b h

theorem nineOf_atCall : nineOf d (atCall m d) = before m d := by
  unfold nineOf before
  congr 1 <;> exact atCall_other m d _ (by decide)

theorem set_other (W : Valuation τ sig (Elt F)) (f : Nine F d) (b : DevRef τ sig)
    (h : b ∉ calledRefs) : setNine d W f b = W b := by
  have h' : ∀ x ∈ called, b ≠ ref x := fun x hx e => h (List.mem_map.mpr ⟨x, hx, e.symm⟩)
  unfold setNine
  simp only [called, List.mem_cons, List.not_mem_nil, or_false, forall_eq_or_imp, forall_eq] at h'
  obtain ⟨-, -, -, h0, h1, h2, h3, h4, h5, h6, h7, h8⟩ := h'
  rw [Function.update_of_ne h8, Function.update_of_ne h7, Function.update_of_ne h6, Function.update_of_ne h5, Function.update_of_ne h4,
    Function.update_of_ne h3, Function.update_of_ne h2, Function.update_of_ne h1, Function.update_of_ne h0]

theorem ref_eq (a b : Ref sig .tc) : ref a = ref b ↔ a = b := (Proc.devRef_injective (τ := τ) .tc).eq_iff

theorem nineOf_set (W : Valuation τ sig (Elt F)) (f : Nine F d) : nineOf d (setNine d W f) = f := by
  unfold nineOf setNine
  cases f
  congr 1 <;> simp (decide := true) only [Function.update_self, Function.update_of_ne, ne_eq, ref_eq, not_false_eq_true]

theorem set_read (W : Valuation τ sig (Elt F)) (f : Nine F d) (b : Ref sig .tc)
    (h : b ∉ [main_v1_0, main_v1_1, main_v1_2, main_v1_3, main_v1_4, main_v1_5, main_v1_6, main_v1_7, main_v1_8]) : setNine d W f (ref b) = W (ref b) := by
  simp only [List.mem_cons, List.not_mem_nil, or_false, not_or] at h
  obtain ⟨h0, h1, h2, h3, h4, h5, h6, h7, h8⟩ := h
  have h' : ∀ x : Ref sig .tc, ¬ b = x → ref b ≠ ref x := fun x hx e => hx ((ref_eq b x).mp e)
  unfold setNine
  rw [Function.update_of_ne (h' _ h8), Function.update_of_ne (h' _ h7), Function.update_of_ne (h' _ h6), Function.update_of_ne (h' _ h5),
    Function.update_of_ne (h' _ h4), Function.update_of_ne (h' _ h3), Function.update_of_ne (h' _ h2), Function.update_of_ne (h' _ h1),
    Function.update_of_ne (h' _ h0)]

/-! ## Before the call and after it -/

theorem held_before : (held (T d : Thread nD τ) (ucRefs τ sig) (atCall m d) : sProp (MM F))
    ⊢ iprop((bigSep Finset.univ fun c : Fin ((K (F := F)).nCore 0) => (P m).st 0 d c) ∗ Rest d (atCall m d)) := by
  rw [held_parts, st0_eq]
  have h := listed_take d (atCall m d)
  rw [nineOf_atCall, atCall_other m d main_arg1 (by decide), atCall_other m d main_arg2 (by decide)] at h
  exact BIClass.sep_mono h .rfl

theorem held_after : iprop((bigSep Finset.univ fun c : Fin ((K (F := F)).nCore 0) => (P m).dn 0 d c) ∗ Rest d (atCall m d))
    ⊢ (held (T d : Thread nD τ) (ucRefs τ sig) (afterCall m d) : sProp (MM F)) := by
  rw [held_parts, dn0_eq]
  have h := listed_give d (afterCall m d)
  unfold afterCall at h ⊢
  rw [nineOf_set, set_read _ _ _ main_arg1 (by decide), set_read _ _ _ main_arg2 (by decide), set_read _ _ _ main_v0 (by decide),
    atCall_other m d main_arg1 (by decide), atCall_other m d main_arg2 (by decide)] at h
  have hr : (Rest d (atCall m d) : sProp (MM F)) = Rest d (setNine d (atCall m d) (results m d)) :=
    bigSep_congr fun b hb => by
      rw [set_other]
      exact fun h' => (Finset.mem_sdiff.mp hb).2 (List.mem_toFinset.mpr h')
  rw [hr]
  exact BIClass.sep_mono h .rfl

/-! ## The program -/

abbrev FIN : sProp (MM F) := held (T d : Thread nD τ) (ucRefs τ sig) (atEnd m d)

theorem unscoped_held : (unscopedBufs d (fun b => m ((SparseCore.T d : Thread nD τ).loc b)) : sProp (MM F))
    = held (T d : Thread nD τ) (ucRefs τ sig) (atLaunch m d) :=
  Pipeline.unscopedBufs_held d (atLaunch m d)

theorem bufs_in : (opIn (F := F)).bufs ⊆ ucRefs τ sig := Pipeline.sub_ucRefs _ (StableHlo.reshape_bufs_sub ..)
theorem bufs_c : (opC (F := F)).bufs ⊆ ucRefs τ sig := Pipeline.sub_ucRefs _ (StableHlo.nullary_bufs_sub ..)
theorem bufs_n : (opN (F := F)).bufs ⊆ ucRefs τ sig := Pipeline.sub_ucRefs _ (StableHlo.unary_bufs_sub ..)
theorem bufs_sbj : (opSbj (F := F)).bufs ⊆ ucRefs τ sig := Pipeline.sub_ucRefs _ (StableHlo.reshape_bufs_sub ..)
theorem bufs_obj : (opObj (F := F)).bufs ⊆ ucRefs τ sig := Pipeline.sub_ucRefs _ (StableHlo.reshape_bufs_sub ..)
theorem bufs_rel : (opRel (F := F)).bufs ⊆ ucRefs τ sig := Pipeline.sub_ucRefs _ (StableHlo.reshape_bufs_sub ..)

theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := ucRefs τ sig) bufs_in (V := atLaunch m d)) $$ [Hb Hheld]
  · isplitl [Hb]; · iexact Hb
    iexact Hheld
  iintro ⟨Hb, Hheld⟩
  rw [wp_ret]; imodintro
  ihave H := (show (held (T d : Thread nD τ) (ucRefs τ sig) (opIn.result (atLaunch m d)) : sProp (MM F)) ⊢ _ from held_before m d) $$ Hheld
  icases H with ⟨Hin, Hrest⟩
  iapply ((K (F := F)).wp_run (D (F := F)) 𝒱 (EH := EH) (P := P m) κ d 0) $$ [Hst Hin Hb Hts Hrest]
  isplitr; · iexact Hctx
  isplitl [Hst]; · iexact Hst
  isplitl [Hin]; · iexact Hin
  iintro ⟨Hst, Hdn⟩
  ihave Hheld := (held_after m d) $$ [Hdn Hrest]
  · isplitl [Hdn]; · iexact Hdn
    iexact Hrest
  iapply (wp_hlo_within 𝒱 (SparseCore.T d) none Set.univ (op := opC) (S := ucRefs τ sig) bufs_c (V := afterCall m d)) $$ [Hb Hheld]
  · isplitl [Hb]; · iexact Hb
    iexact Hheld
  iintro ⟨Hb, Hheld⟩
  rw [wp_ret]; imodintro
  iapply (wp_hlo_within 𝒱 (SparseCore.T d) none Set.univ (op := opN) (S := ucRefs τ sig) bufs_n (V := opC.result (afterCall m d))) $$ [Hb Hheld]
  · isplitl [Hb]; · iexact Hb
    iexact Hheld
  iintro ⟨Hb, Hheld⟩
  rw [wp_ret]; imodintro
  iapply (wp_hlo_within 𝒱 (SparseCore.T d) none Set.univ (op := opSbj) (S := ucRefs τ sig) bufs_sbj
    (V := opN.result (opC.result (afterCall m d)))) $$ [Hb Hheld]
  · isplitl [Hb]; · iexact Hb
    iexact Hheld
  iintro ⟨Hb, Hheld⟩
  rw [wp_ret]; imodintro
  iapply (wp_hlo_within 𝒱 (SparseCore.T d) none Set.univ (op := opObj) (S := ucRefs τ sig) bufs_obj
    (V := opSbj.result (opN.result (opC.result (afterCall m d))))) $$ [Hb Hheld]
  · isplitl [Hb]; · iexact Hb
    iexact Hheld
  iintro ⟨Hb, Hheld⟩
  rw [wp_ret]; imodintro
  iapply (wp_hlo_within 𝒱 (SparseCore.T d) none Set.univ (op := opRel) (S := ucRefs τ sig) bufs_rel
    (V := opObj.result (opSbj.result (opN.result (opC.result (afterCall m d)))))) $$ [Hb Hheld]
  · isplitl [Hb]; · iexact Hb
    iexact Hheld
  iintro ⟨Hb, Hheld⟩
  rw [wp_ret]; imodintro
  imodintro
  isplitl [Hst]; · iexact Hst
  isplitl [Hheld]
  · iapply (show (held (T d : Thread nD τ) (ucRefs τ sig) (opRel.result (opObj.result (opSbj.result (opN.result (opC.result (afterCall m d)))))) : sProp (MM F))
      ⊢ FIN m d from .rfl)
    iexact Hheld
  isplitl [Hb] <;> iassumption

/-! ## The arrays read at the end -/

def fq (s' : Phys nD τ sig (Elt F)) : Prop := ∀ b ∈ ucRefs τ sig, s'.mem.mem (d, b) = atEnd m d b

set_option maxRecDepth 16384 in
theorem hfin_one (s' : Phys nD τ sig (Elt F)) (b : DevRef τ sig) (hb : b ∈ ucRefs τ sig) :
    iprop(FIN m d ∗ SI s') ⊢ (⌜s'.mem.mem (d, b) = atEnd m d b⌝ : sProp (MM F)) := by
  unfold FIN held
  rw [SparseCore.bigSep_sdiff_split' (Finset.singleton_subset_iff.mpr hb), bigSep_singleton]
  iintro ⟨⟨Hi, -⟩, HSI⟩
  ihave H := (SI_pointsTo_agree (st := s') (ℓ := ((d, b) : Loc nD τ sig)) (I := Finset.univ) (q := fullShare) (f := atEnd m d b)) $$ [HSI Hi]
  · isplitl [HSI] <;> iassumption
  icases H with %h
  ipureintro; exact funext fun i => h i (Finset.mem_univ i)

theorem hfin (s' : Phys nD τ sig (Elt F)) : iprop(FIN m d ∗ SI s') ⊢ (⌜fq m d s'⌝ : sProp (MM F)) :=
  ((forall_intro fun b => (forall_intro fun hb => hfin_one m d s' b hb).trans pure_forall.2).trans pure_forall.2)

/-! ## The run -/

/-- Every array of the program ends at `atEnd`, and every semaphore at zero. -/
def QC : PUnit × MemSt nD τ sig (Elt F) → Prop := fun r =>
  (∀ c : Dev nD, ∀ b ∈ ucRefs τ sig, r.2.mem (c, b) = atEnd m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (fun κ d => hmain m ρ d κ) (fq m) (hfin m) (QC m) (fun _ h hz => ⟨h, hz⟩)

end Cert.Pairs

end
-- ==== Proof.Values.lean ====
/- What the program's arrays hold at the end: the arguments as launched, and each result by pair and column. -/
module

public import proofs.«01_k».proof.Proof.Main
public import Idealize.ShloMosaic.Lib.Routing.Ops

@[expose] public section

noncomputable section

namespace Cert.Pairs

open Idealize.ShloMosaic Cert.KernelIdeal Cert.KernelIdeal.Gen
open Idealize.ShloMosaic.Routing Idealize.ShloMosaic.ValueIdx

variable {F : FTy → Type} [FloatOps F]
variable (m : (ℓ : Loc nD τ sig) → Buf (Elt F) ℓ) (d : Dev nD)

/-! ## Through the operations after the call -/

theorem n_read (W : Valuation τ sig (Elt F)) : (opN (F := F)).result ((opC (F := F)).result W) (ref main_v2) = (fun _ => 261632#32 : S1.Idx → BitVec 32) := by
  rw [StableHlo.unary_result, StableHlo.nullary_result]
  rfl

theorem after_other (W : Valuation τ sig (Elt F)) (b : Ref sig .tc) (h : b ∉ [main_c, main_v2, main_v3, main_v4, main_v5]) :
    (opRel (F := F)).result ((opObj (F := F)).result ((opSbj (F := F)).result ((opN (F := F)).result ((opC (F := F)).result W)))) (ref b) = W (ref b) := by
  simp only [List.mem_cons, List.not_mem_nil, or_false, not_or] at h
  obtain ⟨h0, h1, h2, h3, h4⟩ := h
  rw [StableHlo.reshape_result_ne _ _ _ _ _ _ _ h4, StableHlo.reshape_result_ne _ _ _ _ _ _ _ h3, StableHlo.reshape_result_ne _ _ _ _ _ _ _ h2,
    StableHlo.unary_result_ne _ _ _ _ _ _ h1, StableHlo.nullary_result_ne _ _ _ _ h0]

theorem end_arg (b : Ref sig .tc) (h : b ∈ [main_arg0, main_arg1, main_arg2, main_arg3]) : atEnd m d (ref b) = m (d, ref b) := by
  have h₁ : ∀ b ∈ [main_arg0, main_arg1, main_arg2, main_arg3], b ∉ [main_c, main_v2, main_v3, main_v4, main_v5] := by decide
  have h₂ : ∀ b ∈ [main_arg0, main_arg1, main_arg2, main_arg3],
      b ∉ [main_v1_0, main_v1_1, main_v1_2, main_v1_3, main_v1_4, main_v1_5, main_v1_6, main_v1_7, main_v1_8] := by decide
  have h₃ : ∀ b ∈ [main_arg0, main_arg1, main_arg2, main_arg3], b ≠ main_v0 := by decide
  unfold atEnd afterCall
  rw [after_other _ b (h₁ b h), set_read _ _ _ b (h₂ b h), atCall_other m d b (h₃ b h)]

theorem after_nine : nineOf d (afterCall m d) = results m d := nineOf_set d _ _

theorem end_slab : atEnd m d (ref main_v1_3) = (results m d).slab :=
  (after_other _ _ (by decide)).trans (congrArg Nine.slab (after_nine m d))
theorem end_olab : atEnd m d (ref main_v1_4) = (results m d).olab :=
  (after_other _ _ (by decide)).trans (congrArg Nine.olab (after_nine m d))
theorem end_ssco : atEnd m d (ref main_v1_5) = (results m d).ssco :=
  (after_other _ _ (by decide)).trans (congrArg Nine.ssco (after_nine m d))
theorem end_osco : atEnd m d (ref main_v1_6) = (results m d).osco :=
  (after_other _ _ (by decide)).trans (congrArg Nine.osco (after_nine m d))
theorem end_sind : atEnd m d (ref main_v1_7) = (results m d).sind :=
  (after_other _ _ (by decide)).trans (congrArg Nine.sind (after_nine m d))
theorem end_oind : atEnd m d (ref main_v1_8) = (results m d).oind :=
  (after_other _ _ (by decide)).trans (congrArg Nine.oind (after_nine m d))

theorem end_n : atEnd m d (ref main_v2) = (fun _ => 261632#32 : S1.Idx → BitVec 32) := by
  unfold atEnd
  rw [StableHlo.reshape_result_ne _ _ _ _ _ _ _ (by decide), StableHlo.reshape_result_ne _ _ _ _ _ _ _ (by decide),
    StableHlo.reshape_result_ne _ _ _ _ _ _ _ (by decide)]
  exact n_read _

theorem early (W : Valuation τ sig (Elt F)) (b : Ref sig .tc) (h : b ∉ [main_c, main_v2]) :
    (opN (F := F)).result ((opC (F := F)).result W) (ref b) = W (ref b) := by
  simp only [List.mem_cons, List.not_mem_nil, or_false, not_or] at h
  rw [StableHlo.unary_result_ne _ _ _ _ _ _ h.2, StableHlo.nullary_result_ne _ _ _ _ h.1]

/-! ## The three arrays of boxes -/

/-- A flat array of boxes as rows of five. -/
def fives (x : S1308160.Idx → Elt F .f32) : S261632x5.Idx → Elt F .f32 := shapeCast S261632x5 x shapeCasts_S1308160_S261632x5

theorem end_sbj : atEnd m d (ref main_v3) = fives (F := F) (results m d).sbj := by
  unfold atEnd
  rw [StableHlo.reshape_result_ne _ _ _ _ _ _ _ (by decide), StableHlo.reshape_result_ne _ _ _ _ _ _ _ (by decide), StableHlo.reshape_result]
  have h : (opN (F := F)).result ((opC (F := F)).result (afterCall m d)) (ref main_v1_0) = (results m d).sbj :=
    (early _ _ (by decide)).trans (congrArg Nine.sbj (after_nine m d))
  rw [h]
  rfl

theorem end_obj : atEnd m d (ref main_v4) = fives (F := F) (results m d).obj := by
  unfold atEnd
  rw [StableHlo.reshape_result_ne _ _ _ _ _ _ _ (by decide), StableHlo.reshape_result, StableHlo.reshape_result_ne _ _ _ _ _ _ _ (by decide)]
  have h : (opN (F := F)).result ((opC (F := F)).result (afterCall m d)) (ref main_v1_1) = (results m d).obj :=
    (early _ _ (by decide)).trans (congrArg Nine.obj (after_nine m d))
  rw [h]
  rfl

theorem end_rel : atEnd m d (ref main_v5) = fives (F := F) (results m d).rel := by
  unfold atEnd
  rw [StableHlo.reshape_result, StableHlo.reshape_result_ne _ _ _ _ _ _ _ (by decide), StableHlo.reshape_result_ne _ _ _ _ _ _ _ (by decide)]
  have h : (opN (F := F)).result ((opC (F := F)).result (afterCall m d)) (ref main_v1_2) = (results m d).rel :=
    (early _ _ (by decide)).trans (congrArg Nine.rel (after_nine m d))
  rw [h]
  rfl

/-! ## By pair and column -/

variable {m d}

theorem at_row {j q : ℕ} (hj : j < 5) : (5 * q + j) / 2555 = rowOf q ∧ (5 * q + j) % 5 = j := by
  unfold rowOf; omega

/-- Number `j` of box `r`. -/
def box (m : (ℓ : Loc nD τ sig) → Buf (Elt F) ℓ) (d : Dev nD) (r : ℕ) (hr : r < 512) (j : Fin 5) : Elt F .f32 :=
  (m (d, ref main_arg0) : S512x5.Idx → Elt F .f32) (ix2 ⟨r, hr⟩ j)

theorem boxAt_eq {r : ℕ} (hr : r < 512) (j : Fin 5) : boxAt m d (5 * r + j.val) = box m d r hr j := by
  have e : flat m d = shapeCast S2560 (m (d, ref main_arg0) : S512x5.Idx → Elt F .f32) shapeCasts_S512x5_S2560 := by
    unfold flat atCall
    rw [StableHlo.reshape_result]
    rfl
  have h := cast21 (m (d, ref main_arg0) : S512x5.Idx → Elt F .f32) shapeCasts_S512x5_S2560 ⟨r, hr⟩ j ⟨5 * r + j.val, by omega⟩ (by show 5 * r + j.val = r * 5 + j.val; omega)
  unfold box
  rw [← h, ← e]
  exact (flat_eq m d (ix1 ⟨5 * r + j.val, _⟩)).symm

theorem sbj_eq (q : Fin 261632) (j : Fin 5) :
    sbjAt (boxAt m d) (5 * q.val + j.val) = box m d (rowOf q.val) (by unfold rowOf; omega) j := by
  unfold sbjAt
  rw [(at_row j.isLt).1, (at_row j.isLt).2]
  exact boxAt_eq _ j

theorem obj_eq (q : Fin 261632) (j : Fin 5) : objAt (boxAt m d) (5 * q.val + j.val) = box m d (colOf q.val) (colOf_lt _) j := by
  have e : (5 * q.val + j.val) % 2555 + (if 5 * ((5 * q.val + j.val) / 2555) ≤ (5 * q.val + j.val) % 2555 then 5 else 0) = 5 * colOf q.val + j.val := by
    unfold colOf
    split <;> split <;> omega
  unfold objAt
  rw [e]
  exact boxAt_eq _ j

theorem fives_at (A : ℕ → Elt F .f32) (q : Fin 261632) (j : Fin 5) :
    fives (F := F) (fun p : S1308160.Idx => A (p 0).val) (ix2 q j) = A (5 * q.val + j.val) := by
  unfold fives
  refine (cast12 (fun p : S1308160.Idx => A (p 0).val) shapeCasts_S1308160_S261632x5 q j ⟨5 * q.val + j.val, by omega⟩ ?_).trans rfl
  show 5 * q.val + j.val = q.val * 5 + j.val
  omega

theorem sbj_at (q : Fin 261632) (j : Fin 5) :
    fives (F := F) (results m d).sbj (ix2 q j) = box m d (rowOf q.val) (by unfold rowOf; omega) j :=
  (fives_at (sbjAt (boxAt m d)) q j).trans (sbj_eq q j)
theorem obj_at (q : Fin 261632) (j : Fin 5) : fives (F := F) (results m d).obj (ix2 q j) = box m d (colOf q.val) (colOf_lt _) j :=
  (fives_at (objAt (boxAt m d)) q j).trans (obj_eq q j)
theorem rel_at (q : Fin 261632) (j : Fin 5) :
    fives (F := F) (results m d).rel (ix2 q j)
      = relOf j.val (box m d (rowOf q.val) (by unfold rowOf; omega) j) (box m d (colOf q.val) (colOf_lt _) j) := by
  refine (fives_at (relAt (boxAt m d)) q j).trans ?_
  unfold relAt
  rw [sbj_eq, obj_eq, (at_row j.isLt).2]

theorem slab_at (q : Fin 261632) : ((results m d).slab : S261632.Idx → Elt F .i32) (ix1 q) = labelAt m d (rowOf q.val) := rfl
theorem olab_at (q : Fin 261632) : ((results m d).olab : S261632.Idx → Elt F .i32) (ix1 q) = labelAt m d (colOf q.val) := rfl
theorem ssco_at (q : Fin 261632) : ((results m d).ssco : S261632.Idx → Elt F .f32) (ix1 q) = scoreAt m d (rowOf q.val) := rfl
theorem osco_at (q : Fin 261632) : ((results m d).osco : S261632.Idx → Elt F .f32) (ix1 q) = scoreAt m d (colOf q.val) := rfl
theorem sind_at (q : Fin 261632) : ((results m d).sind : S261632.Idx → BitVec 32) (ix1 q) = BitVec.ofNat 32 (rowOf q.val) := rfl
theorem oind_at (q : Fin 261632) : ((results m d).oind : S261632.Idx → BitVec 32) (ix1 q) = BitVec.ofNat 32 (colOf q.val) := rfl

end Cert.Pairs

end
-- ==== Proof.Order.lean ====
/- The pairs in order. Of the 512 × 512 positions of a square, read row by row, the ones off the diagonal are the ordered
   pairs; sorting the positions with the diagonal's sent past the end brings the pairs first, pair `q` from position
   `spot q`. -/
module

public import proofs.«01_k».proof.Proof.Spec
public import Idealize.ShloMosaic.Lib.SortPrefix
public import Idealize.ShloMosaic.Lib.StableHlo.Predicate

@[expose] public section

noncomputable section

namespace Cert.Pairs

open Idealize.ShloMosaic

/-! ## A stable sort takes equal keys in the order of their positions -/

theorem stableSort_ties {n : ℕ} (B B' : Fin n → Fin n → Bool) (h : ∀ a b, a < b → B b a = B' b a) (l : List (Fin n))
    (hl : l.Pairwise (· < ·)) : stableSort B l = stableSort B' l := by
  induction l with
  | nil => rfl
  | cons a l ih =>
    rw [List.pairwise_cons] at hl
    unfold stableSort
    rw [ih hl.2]
    exact insertBefore_congr B B' a _ fun b hb => h a b (hl.1 b ((perm_stableSort B' l).mem_iff.mp hb))

theorem sortedFrom_ties {n : ℕ} (B B' : Fin n → Fin n → Bool) (h : ∀ a b, a < b → B b a = B' b a) (k : Fin n) :
    sortedFrom B k = sortedFrom B' k := by
  have e : sortPositions n B = sortPositions n B' := stableSort_ties B B' h _ (List.pairwise_lt_finRange n)
  unfold sortedFrom
  simp only [e, List.get_eq_getElem, Fin.val_cast]

/-- Of a sort by natural keys: where `σ` lists positions of increasing keys, all others having keys past these, the sort's
    first positions are `σ`'s. -/
theorem sorted_prefix {n k : ℕ} (key : Fin n → ℕ) (B : Fin n → Fin n → Bool) (hB : ∀ a b, B a b = decide (key a < key b)) (hk : k ≤ n)
    (σ : Fin k → Fin n) (hord : ∀ i j, i < j → key (σ i) < key (σ j)) (hdom : ∀ (i : Fin k) p, (∀ j, σ j ≠ p) → key (σ i) < key p) (i : Fin k) :
    sortedFrom B (i.castLE hk) = σ i := by
  have hT : StrictTotalBefore fun a b : Fin n => decide (key a < key b) || (decide (key a = key b) && decide (a < b)) :=
    StrictTotalBefore.of_key_then_position (fun a b => decide (a < b)) key (by simp) (by simp; omega) (by simp; omega)
  rw [sortedFrom_ties B _ (fun a b hab => ?_)]
  · refine hT.sortedFrom_eq_of_prefix hk σ (fun a b e => ?_) (fun a b hab => ?_) (fun a p hp => ?_) i
    · rcases lt_trichotomy a b with h | h | h
      · have := hord a b h; rw [e] at this; omega
      · exact h
      · have := hord b a h; rw [e] at this; omega
    · have := hord a b hab
      simp only [Bool.or_eq_false_iff, decide_eq_false_iff_not, Bool.and_eq_false_iff]
      omega
    · have := hdom a p hp
      simp only [Bool.or_eq_false_iff, decide_eq_false_iff_not, Bool.and_eq_false_iff]
      omega
  · rw [hB, decide_eq_false (p := b < a) (by omega), Bool.and_false, Bool.or_false]

/-! ## Where a pair stands in the square -/

/-- The position of pair `q`. -/
def spot (q : ℕ) : ℕ := 512 * rowOf q + colOf q

theorem spot_row (q : ℕ) : spot q / 512 = rowOf q := by have := colOf_lt q; unfold spot; omega
theorem spot_col (q : ℕ) : spot q % 512 = colOf q := by have := colOf_lt q; unfold spot; omega

theorem rowOf_lt {q : ℕ} (h : q < 261632) : rowOf q < 512 := by unfold rowOf; omega
theorem spot_lt {q : ℕ} (h : q < 261632) : spot q < 262144 := by have := rowOf_lt h; have := colOf_lt q; unfold spot; omega

theorem spot_off (q : ℕ) : spot q / 512 ≠ spot q % 512 := by
  rw [spot_row, spot_col]
  unfold rowOf colOf
  split <;> omega

theorem spot_mono {p q : ℕ} (h : p < q) : spot p < spot q := by
  unfold spot rowOf colOf
  split <;> split <;> omega

theorem spot_onto {s : ℕ} (hs : s < 262144) (h : s / 512 ≠ s % 512) : ∃ q < 261632, spot q = s := by
  by_cases hc : s % 512 < s / 512
  · refine ⟨511 * (s / 512) + s % 512, by omega, ?_⟩
    have e1 : (511 * (s / 512) + s % 512) / 511 = s / 512 := by omega
    have e2 : (511 * (s / 512) + s % 512) % 511 = s % 512 := by omega
    unfold spot rowOf colOf
    rw [e1, e2, if_neg (by omega)]; omega
  · refine ⟨511 * (s / 512) + (s % 512 - 1), by omega, ?_⟩
    have e1 : (511 * (s / 512) + (s % 512 - 1)) / 511 = s / 512 := by omega
    have e2 : (511 * (s / 512) + (s % 512 - 1)) % 511 = s % 512 - 1 := by omega
    unfold spot rowOf colOf
    rw [e1, e2, if_pos (by omega)]; omega

/-- A position's key: itself off the diagonal, past all positions on it. -/
def keyAt (s : ℕ) : ℕ := if s / 512 = s % 512 then 262144 else s

theorem keyAt_le {s : ℕ} (h : s < 262144) : keyAt s ≤ 262144 := by unfold keyAt; split <;> omega
theorem keyAt_spot (q : ℕ) : keyAt (spot q) = spot q := if_neg (spot_off q)

/-- Pair `q` is brought to place `q`. -/
theorem sorted_spot (B : Fin 262144 → Fin 262144 → Bool) (hB : ∀ a b, B a b = decide (keyAt a.val < keyAt b.val)) (q : Fin 261632) :
    sortedFrom B (q.castLE (by omega)) = ⟨spot q.val, spot_lt q.isLt⟩ := by
  refine sorted_prefix (fun a => keyAt a.val) B hB (by omega) (fun q : Fin 261632 => ⟨spot q.val, spot_lt q.isLt⟩)
    (fun i j hij => ?_) (fun i p hp => ?_) q
  · simp only [keyAt_spot]
    exact spot_mono hij
  · simp only [keyAt_spot]
    have hd : p.val / 512 = p.val % 512 := by
      by_contra hne
      obtain ⟨r, hr, e⟩ := spot_onto p.isLt hne
      exact hp ⟨r, hr⟩ (Fin.ext e)
    unfold keyAt
    rw [if_pos hd]
    exact spot_lt i.isLt

end Cert.Pairs

end
-- ==== Proof.Take.lean ====
/- A table read at a list of places, as the reference prints it: a place counted from the end is moved into the table, a
   place outside the table yields a filler. Where every place is inside the table, the result is the table's entries. -/
module

public import Idealize.ShloMosaic.Lib.Routing.Ops
public import Idealize.ShloMosaic.Lib.Routing.OpsPair
public import Idealize.ShloMosaic.Lib.Routing.OpsSearch
public import Idealize.ShloMosaic.Lib.ReduceAll

@[expose] public section

noncomputable section

namespace Cert.Pairs

open Idealize.ShloMosaic Idealize.ShloMosaic.Routing Idealize.ShloMosaic.ValueIdx

/-- The list `x` of words holds the places `k`, all inside a table of `N` entries. -/
def Listed {n : ℕ} (N : ℕ) (x : IVec (shape1 n) 32) (k : Fin n → ℕ) : Prop := ∀ p, k p < N ∧ x (ix1 p) = BitVec.ofNat 32 (k p)

/-- The same of a column of words. -/
def Column {n : ℕ} (N : ℕ) (x : IVec (shape2 n 1) 32) (k : Fin n → ℕ) : Prop := ∀ p, k p < N ∧ x (ix2 p (0 : Fin 1)) = BitVec.ofNat 32 (k p)

variable {n N : ℕ}

/-- Places inside the table stay as they are. -/
theorem column_of (hN : N < 2 ^ 31) (w : BitVec 32) {x : IVec (shape1 n) 32} {k : Fin n → ℕ} (hx : Listed N x k)
    (h₁ : (shape1 n).BroadcastsInDim (shape2 n 1) (![0] : Fin 1 → Fin (shape2 n 1).rank))
    (h₀ : shape0.BroadcastsInDim (shape1 n) (![] : Fin 0 → Fin (shape1 n).rank)) :
    Column N (broadcastInDim (shape2 n 1) ![0] h₁ (select (cmpi .slt x (broadcastInDim (shape1 n) ![] h₀ (constantI shape0 32 0#32)))
      (addi x (broadcastInDim (shape1 n) ![] h₀ (constantI shape0 32 w))) x)) k := by
  intro p
  obtain ⟨hk, e⟩ := hx p
  refine ⟨hk, ?_⟩
  rw [bcCol]
  have hw : (x (ix1 p)).toNat < 2 ^ (32 - 1) := by rw [e, BitVec.toNat_ofNat, Nat.mod_eq_of_lt (by omega)]; omega
  refine Eq.trans ?_ ((wrap_of_lt (x (ix1 p)) (addi x (broadcastInDim (shape1 n) ![] h₀ (constantI shape0 32 w)) (ix1 p)) hw).trans e)
  rfl

/-- All places are inside. -/
theorem inside {idx : IVec (shape2 n 1) 32} {k : Fin n → ℕ} (hx : Column N idx k) (top : ℕ) (htop : top < 2 ^ 31) (hN : N ≤ top + 1)
    (h₀ : shape0.BroadcastsInDim (shape2 n 1) (![] : Fin 0 → Fin (shape2 n 1).rank))
    (h₁ : (shape2 1 1).BroadcastsInDim (shape2 n 1) (![0, 1] : Fin 2 → Fin (shape2 n 1).rank))
    (h₂ : (shape1 1).BroadcastsInDim (shape2 1 1) (![1] : Fin 1 → Fin (shape2 1 1).rank))
    (hr : (shape2 n 1).ReducesTo [1] (shape1 n)) (hu : 0 < shape0.numel) (j : (shape1 n).Idx) :
    Host.reduce IntOp.andi (andi (cmpi .sge idx (broadcastInDim (shape2 n 1) ![] h₀ (constantI shape0 32 0#32)))
      (cmpi .sle idx (broadcastInDim (shape2 n 1) ![0, 1] h₁ (broadcastInDim (shape2 1 1) ![1] h₂ (constantI (shape1 1) 32 (BitVec.ofNat 32 top))))))
      (constantI shape0 1 1#1) hr hu j = 1#1 := by
  refine Host.reduce_andi_one _ _ hr hu j rfl fun i => ?_
  obtain ⟨p, rfl⟩ : ∃ p : Fin n, i = ix2 p (0 : Fin 1) := ⟨i 0, (eq_ix2 i).trans (congrArg (ix2 (i 0)) (Subsingleton.elim (α := Fin 1) _ _))⟩
  obtain ⟨hk, e⟩ := hx p
  show IntOp.andi (IntOp.cmpi .sge (idx (ix2 p 0)) 0#32) (IntOp.cmpi .sle (idx (ix2 p 0)) (BitVec.ofNat 32 top)) = 1#1
  have hw : (idx (ix2 p (0 : Fin 1))).toNat = k p := by rw [e, BitVec.toNat_ofNat, Nat.mod_eq_of_lt (by omega)]
  have ht : (BitVec.ofNat 32 top).toNat = top := by rw [BitVec.toNat_ofNat, Nat.mod_eq_of_lt (by omega)]
  rw [(StableHlo.Predicate.sge_iff_toNat (by omega) (by simp)).mpr (by simp), (StableHlo.Predicate.sle_iff_toNat (by omega) (by omega)).mpr (by omega)]
  rfl

/-- One number at each place. -/
theorem taken {α : Type} {idx : IVec (shape2 n 1) 32} {k : Fin n → ℕ} (hx : Column N idx k) (top : ℕ) (htop : top < 2 ^ 31) (hN : N = top + 1)
    (d : GatherDims (shape1 N) (shape2 n 1) (shape1 n)) (hcoll : d.collapsedSliceDims = [0]) (hob : d.operandBatchingDims = [])
    (hsim : d.startIndexMap = [0]) (hivd : d.indexVectorDim = 1) (x : (shape1 N).Idx → α) (fill : (shape1 n).Idx → α)
    (h₀ : shape0.BroadcastsInDim (shape2 n 1) (![] : Fin 0 → Fin (shape2 n 1).rank))
    (h₁ : (shape2 1 1).BroadcastsInDim (shape2 n 1) (![0, 1] : Fin 2 → Fin (shape2 n 1).rank))
    (h₂ : (shape1 1).BroadcastsInDim (shape2 1 1) (![1] : Fin 1 → Fin (shape2 1 1).rank))
    (hr : (shape2 n 1).ReducesTo [1] (shape1 n)) (hu : 0 < shape0.numel) (p : Fin n) :
    select (Host.reduce IntOp.andi (andi (cmpi .sge idx (broadcastInDim (shape2 n 1) ![] h₀ (constantI shape0 32 0#32)))
      (cmpi .sle idx (broadcastInDim (shape2 n 1) ![0, 1] h₁ (broadcastInDim (shape2 1 1) ![1] h₂ (constantI (shape1 1) 32 (BitVec.ofNat 32 top))))))
      (constantI shape0 1 1#1) hr hu) (Host.gather d x idx) fill (ix1 p) = x (ix1 ⟨k p, (hx p).1⟩) := by
  have hi := inside hx top htop (by omega) h₀ h₁ h₂ hr hu (ix1 p)
  unfold select
  rw [hi, select_one, take_ap d hcoll hob hsim hivd x idx p (hx p).1 (by have := (hx p).1; omega) (hx p).2]

/-- A row of numbers at each place. -/
theorem taken_row {α : Type} {B : ℕ} {idx : IVec (shape2 n 1) 32} {k : Fin n → ℕ} (hx : Column N idx k) (top : ℕ) (htop : top + 1 < 2 ^ 31) (hN : N = top + 1)
    (d : GatherDims (shape2 N B) (shape2 n 1) (shape2 n B)) (hoff : d.offsetDims = [1]) (hcoll : d.collapsedSliceDims = [0]) (hob : d.operandBatchingDims = [])
    (hsim : d.startIndexMap = [0]) (hivd : d.indexVectorDim = 1) (x : (shape2 N B).Idx → α) (fill : (shape2 n B).Idx → α)
    (h₀ : shape0.BroadcastsInDim (shape2 n 1) (![] : Fin 0 → Fin (shape2 n 1).rank))
    (h₁ : (shape2 1 1).BroadcastsInDim (shape2 n 1) (![0, 1] : Fin 2 → Fin (shape2 n 1).rank))
    (h₂ : (shape1 1).BroadcastsInDim (shape2 1 1) (![1] : Fin 1 → Fin (shape2 1 1).rank))
    (h₃ : (shape1 n).BroadcastsInDim (shape2 n B) (![0] : Fin 1 → Fin (shape2 n B).rank))
    (hr : (shape2 n 1).ReducesTo [1] (shape1 n)) (hu : 0 < shape0.numel) (p : Fin n) (j : Fin B) :
    select (broadcastInDim (shape2 n B) ![0] h₃ (Host.reduce IntOp.andi (andi (cmpi .sge idx (broadcastInDim (shape2 n 1) ![] h₀ (constantI shape0 32 0#32)))
      (cmpi .sle idx (broadcastInDim (shape2 n 1) ![0, 1] h₁ (broadcastInDim (shape2 1 1) ![1] h₂ (constantI (shape1 1) 32 (BitVec.ofNat 32 top))))))
      (constantI shape0 1 1#1) hr hu)) (Host.gather d x idx) fill (ix2 p j) = x (ix2 ⟨k p, (hx p).1⟩ j) := by
  have hi := fun i => inside hx top (by omega) (by omega) h₀ h₁ h₂ hr hu i
  unfold select
  rw [show ∀ y : (shape1 n).Idx → BitVec 1, (∀ i, y i = 1#1) → broadcastInDim (shape2 n B) ![0] h₃ y (ix2 p j) = 1#1 from fun y hy => hy _]
  · rw [select_one]
    exact gather_row d hoff hcoll hob hsim hivd x idx p j ⟨k p, (hx p).1⟩ (hx p).2 (by omega)
  · exact hi

end Cert.Pairs

end
-- ==== Proof.Columns.lean ====
/- A table of five columns built from its columns, a column taken out of it, and a list sorted: each read at an index. -/
module

public import Idealize.ShloMosaic.Lib.Routing.Ops

@[expose] public section

noncomputable section

namespace Cert.Pairs

open Idealize.ShloMosaic Idealize.ShloMosaic.Routing Idealize.ShloMosaic.ValueIdx

variable {α : Type} {n : ℕ}

/-- Column `c` of a table, as a list. -/
theorem column_at {b : ℕ} (c : ℕ) (hc : c < b) (x : (shape2 n b).Idx → α) (hs : (shape2 n b).Slices ![0, c] (shape2 n 1))
    (h : (shape2 n 1).ShapeCasts (shape1 n)) (p : Fin n) :
    shapeCast (shape1 n) (extractStridedSlice (shape2 n 1) ![0, c] x hs) h (ix1 p) = x (ix2 p ⟨c, hc⟩) := by
  rw [cast21 _ h p (0 : Fin 1) p (by simp)]
  unfold extractStridedSlice
  refine congrArg x (funext fun a => Fin.ext ?_)
  match a with
  | ⟨0, _⟩ => show 0 + p.val = p.val; omega
  | ⟨1, _⟩ => rfl

/-- Five columns side by side. -/
theorem five_columns (x : Fin 5 → (shape2 n 1).Idx → α)
    (h : Shape.Concatenates [shape2 n 1, shape2 n 1, shape2 n 1, shape2 n 1, shape2 n 1] (shape2 n 5) 1) (p : Fin n) (j : Fin 5) :
    concatenate (shape2 n 5) 1 [⟨shape2 n 1, x 0⟩, ⟨shape2 n 1, x 1⟩, ⟨shape2 n 1, x 2⟩, ⟨shape2 n 1, x 3⟩, ⟨shape2 n 1, x 4⟩] h (ix2 p j)
      = x j (ix2 p (0 : Fin 1)) := by
  have hi : ∀ b : Fin (shape2 n 1).rank, b.cast (rfl : (shape2 n 1).rank = (shape2 n 5).rank) ≠ 1 →
      (ix2 p (0 : Fin 1) b).val = (ix2 p j (b.cast rfl)).val := by
    intro b hb
    match b with
    | ⟨0, _⟩ => rfl
    | ⟨1, _⟩ => exact absurd rfl hb
  have hk := concatenate_apply_piece (1 : Fin (shape2 n 5).rank)
    [⟨shape2 n 1, x 0⟩, ⟨shape2 n 1, x 1⟩, ⟨shape2 n 1, x 2⟩, ⟨shape2 n 1, x 3⟩, ⟨shape2 n 1, x 4⟩] h
  match j with
  | 0 => exact hk _ 0 (by decide : 0 < 5) (shape2 n 1) (x 0) rfl rfl 0 rfl _ hi rfl
  | 1 => exact hk _ 1 (by decide : 1 < 5) (shape2 n 1) (x 1) rfl rfl 1 rfl _ hi rfl
  | 2 => exact hk _ 2 (by decide : 2 < 5) (shape2 n 1) (x 2) rfl rfl 2 rfl _ hi rfl
  | 3 => exact hk _ 3 (by decide : 3 < 5) (shape2 n 1) (x 3) rfl rfl 3 rfl _ hi rfl
  | 4 => exact hk _ 4 (by decide : 4 < 5) (shape2 n 1) (x 4) rfl rfl 4 rfl _ hi rfl

/-- A list sorted: the entry that comes to place `i`. -/
theorem sort_at (cmp : α → α → BitVec 1) (x : (shape1 n).Idx → α) (i : Fin n) :
    Host.sort (shape1 n) 0 cmp x (ix1 i) = x (ix1 (sortedFrom (fun k k' => cmp (x (ix1 k)) (x (ix1 k')) == 1#1) i)) := by
  have e : ∀ k : Fin n, (ix1 i).along (0 : Fin (shape1 n).rank) k = ix1 k := by
    intro k
    funext a
    match a with
    | ⟨0, _⟩ => rfl
  unfold Host.sort
  rw [dif_pos (show 0 < (shape1 n).rank from Nat.one_pos)]
  have hf : (fun k k' : Fin n => cmp (x ((ix1 i).along (0 : Fin (shape1 n).rank) k)) (x ((ix1 i).along (0 : Fin (shape1 n).rank) k')) == 1#1)
      = fun k k' => cmp (x (ix1 k)) (x (ix1 k')) == 1#1 := funext fun k => funext fun k' => by rw [e k, e k']
  exact (congrArg x (e _)).trans (congrArg (fun B => x (ix1 (sortedFrom B i))) hf)

end Cert.Pairs

end
-- ==== Proof.Reference.lean ====
/- The reference's results: it lists the positions of the 512 × 512 square that are off the diagonal, sorted, and reads
   each array at the row and at the column of every one. -/
module

public import proofs.«01_k».proof.Proof.Order
public import proofs.«01_k».proof.Proof.Take
public import proofs.«01_k».proof.Proof.Columns
public import proofs.«01_k».proof.Proof.Gen.ReferenceIdeal.Run

@[expose] public section

noncomputable section

namespace Cert.Pairs

open Idealize.ShloMosaic Cert.ReferenceIdeal Cert.ReferenceIdeal.Gen Cert.ReferenceIdeal.Value
open Idealize.ShloMosaic.Routing Idealize.ShloMosaic.ValueIdx

variable {F : FTy → Type} [FloatOps F] (V : Valuation τ sig (Elt F))

/-! ## The square, position by position -/

theorem square_row (s : Fin 262144) : (res_main_v2 V : S262144.Idx → BitVec 32) (ix1 s) = BitVec.ofNat 32 (s.val / 512) := by
  unfold res_main_v2
  refine (cast21 _ shapeCasts_S512x512_S262144 ⟨s.val / 512, by omega⟩ ⟨s.val % 512, by omega⟩ s (by show s.val = s.val / 512 * 512 + s.val % 512; omega)).trans ?_
  refine (broadcastInDim_apply _ bcast_S512_S512x512_0 _ _ (ix1 ⟨s.val / 512, by omega⟩) fun a => ?_).trans rfl
  match a with
  | ⟨0, _⟩ => rfl

theorem square_col (s : Fin 262144) : (res_main_v6 V : S262144.Idx → BitVec 32) (ix1 s) = BitVec.ofNat 32 (s.val % 512) := by
  unfold res_main_v6
  refine (cast21 _ shapeCasts_S512x512_S262144 ⟨s.val / 512, by omega⟩ ⟨s.val % 512, by omega⟩ s (by show s.val = s.val / 512 * 512 + s.val % 512; omega)).trans ?_
  refine (broadcastInDim_apply _ bcast_S1x512_S512x512_0_1 _ _ (ix2 (0 : Fin 1) ⟨s.val % 512, by omega⟩) fun a => ?_).trans ?_
  · match a with
    | ⟨0, _⟩ => rfl
    | ⟨1, _⟩ => rfl
  · exact (cast12 _ shapeCasts_S512_S1x512 0 ⟨s.val % 512, by omega⟩ ⟨s.val % 512, by omega⟩ (by simp)).trans rfl

/-- The list to sort: a position off the diagonal, or a number past all. -/
abbrev keys : IVec S262144 32 :=
  select (cmpi .ne (res_main_v2 V) (res_main_v6 V)) (iotaInDim S262144 32 0) (broadcastInDim S262144 ![] bcast_S_S262144 (id (constantI S_ 32 262144#32)))

theorem keys_at (s : Fin 262144) : keys V (ix1 s) = BitVec.ofNat 32 (keyAt s.val) := by
  have e : keys V (ix1 s) = Scalar.select (IntOp.cmpi .ne ((res_main_v2 V : S262144.Idx → BitVec 32) (ix1 s)) ((res_main_v6 V : S262144.Idx → BitVec 32) (ix1 s)))
      (BitVec.ofNat 32 s.val) 262144#32 := rfl
  have hs := s.isLt
  rw [e, square_row, square_col, WordCmp.cmpi_ne_ofNat (by omega) (by omega), WordCmp.select_decide]
  unfold keyAt
  by_cases h : s.val / 512 = s.val % 512
  · rw [if_neg (by simpa using h), if_pos h]
  · rw [if_pos (by simpa using h), if_neg h]

/-- Pair `q` stands at position `spot q`. -/
theorem places : Listed 262144 (res_main_v11 V : S261632.Idx → BitVec 32) fun q => spot q.val := by
  intro q
  refine ⟨spot_lt q.isLt, ?_⟩
  have hq := q.isLt
  have e : (res_main_v11 V : S261632.Idx → BitVec 32) (ix1 q) = Host.sort S262144 0 comparator_i32_d0 (keys V) (ix1 (q.castLE (by omega))) := by
    unfold res_main_v11
    refine (slice1 0 (Host.sort S262144 0 comparator_i32_d0 (keys V)) slices_S262144_S261632_0 q (by omega)).trans ?_
    exact congrArg (fun i => Host.sort S262144 0 comparator_i32_d0 (keys V) (ix1 i)) (Fin.ext (by simp))
  refine e.trans ((sort_at comparator_i32_d0 (keys V) _).trans ?_)
  rw [sorted_spot _ (fun a b => ?_) q, keys_at, keyAt_spot]
  rw [keys_at, keys_at]
  have ha := keyAt_le a.isLt
  have hb := keyAt_le b.isLt
  show (IntOp.cmpi .slt _ _ == 1#1) = _
  rw [WordCmp.cmpi_slt_ofNat (by omega) (by omega)]
  by_cases h : keyAt a.val < keyAt b.val
  · simp [h]
  · simp [h]

/-! ## The rows and the columns -/

theorem row_at (q : Fin 261632) : (res_main_v12 V : S261632.Idx → BitVec 32) (ix1 q) = BitVec.ofNat 32 (rowOf q.val) := by
  unfold res_main_v12
  refine (taken (column_of (by omega) 262144#32 (places V) bcast_S261632_S261632x1_0 bcast_S_S261632) 262143 (by omega) (by omega)
    gather_S262144_S261632x1_S261632_n_0_n_n_0_1_1 rfl rfl rfl rfl _ _ _ _ _ _ _ q).trans ?_
  rw [square_row]
  exact congrArg _ (spot_row q.val)

theorem col_at (q : Fin 261632) : (res_main_v13 V : S261632.Idx → BitVec 32) (ix1 q) = BitVec.ofNat 32 (colOf q.val) := by
  unfold res_main_v13
  refine (taken (column_of (by omega) 262144#32 (places V) bcast_S261632_S261632x1_0 bcast_S_S261632) 262143 (by omega) (by omega)
    gather_S262144_S261632x1_S261632_n_0_n_n_0_1_1 rfl rfl rfl rfl _ _ _ _ _ _ _ q).trans ?_
  rw [square_col]
  exact congrArg _ (spot_col q.val)

theorem row_list : Listed 512 (res_main_v12 V : S261632.Idx → BitVec 32) fun q => rowOf q.val := fun q => ⟨rowOf_lt q.isLt, row_at V q⟩
theorem col_list : Listed 512 (res_main_v13 V : S261632.Idx → BitVec 32) fun q => colOf q.val := fun q => ⟨colOf_lt q.val, col_at V q⟩

/-- The columns of places, as each read has them. -/
theorem row_column : Column 512 (res_main_call6_v5 V : S261632x1.Idx → BitVec 32) fun q => rowOf q.val :=
  column_of (by omega) 512#32 (row_list V) bcast_S261632_S261632x1_0 bcast_S_S261632
theorem col_column : Column 512 (res_main_call7_v5 V : S261632x1.Idx → BitVec 32) fun q => colOf q.val :=
  column_of (by omega) 512#32 (col_list V) bcast_S261632_S261632x1_0 bcast_S_S261632

/-! ## The arrays read at them -/

theorem rsbj_at (q : Fin 261632) (j : Fin 5) :
    (res_main_v14 V : S261632x5.Idx → Elt F .f32) (ix2 q j) = (V (Proc.devRef .tc main_arg0) : S512x5.Idx → Elt F .f32) (ix2 ⟨rowOf q.val, rowOf_lt q.isLt⟩ j) := by
  unfold res_main_v14
  exact taken_row (row_column V) 511 (by omega) (by omega) gather_S512x5_S261632x1_S261632x5_1_0_n_n_0_1_15 rfl rfl rfl rfl rfl _ _ _ _ _ _ _ _ q j

theorem robj_at (q : Fin 261632) (j : Fin 5) :
    (res_main_v15 V : S261632x5.Idx → Elt F .f32) (ix2 q j) = (V (Proc.devRef .tc main_arg0) : S512x5.Idx → Elt F .f32) (ix2 ⟨colOf q.val, colOf_lt _⟩ j) := by
  unfold res_main_v15
  exact taken_row (col_column V) 511 (by omega) (by omega) gather_S512x5_S261632x1_S261632x5_1_0_n_n_0_1_15 rfl rfl rfl rfl rfl _ _ _ _ _ _ _ _ q j

/-- A list of 512 read at a column of places, `fill` where a place is outside. -/
abbrev lookup {α : Type} (idx : IVec S261632x1 32) (x : S512.Idx → α) (fill : S_.Idx → α) : S261632.Idx → α :=
  select (Host.reduce IntOp.andi (andi (cmpi .sge idx (broadcastInDim S261632x1 ![] bcast_S_S261632x1 (constantI S_ 32 0#32)))
    (cmpi .sle idx (broadcastInDim S261632x1 ![0, 1] bcast_S1x1_S261632x1_0_1
      (broadcastInDim S1x1 ![1] bcast_S1_S1x1_1 (constantI S1 32 511#32)))))
    (constantI S_ 1 1#1) reducesTo_S261632x1_S261632_d1 h_S_)
    (Host.gather gather_S512_S261632x1_S261632_n_0_n_n_0_1_1 x idx) (broadcastInDim S261632 ![] bcast_S_S261632 fill)

theorem lookup_at {α : Type} {idx : IVec S261632x1 32} {k : Fin 261632 → ℕ} (hx : Column 512 idx k) (x : S512.Idx → α) (fill : S_.Idx → α) (q : Fin 261632) :
    lookup idx x fill (ix1 q) = x (ix1 ⟨k q, (hx q).1⟩) :=
  taken hx 511 (by omega) (by omega) gather_S512_S261632x1_S261632_n_0_n_n_0_1_1 rfl rfl rfl rfl x _ _ _ _ _ _ q

/-- Column `j` of the boxes around both. -/
def around (V : Valuation τ sig (Elt F)) (j : Fin 5) : S261632.Idx → Elt F .f32 :=
  match j with
  | 0 => shapeCast S261632 (extractStridedSlice S261632x1 ![0, 0] (res_main_v14 V) slices_S261632x5_S261632x1_0_0) shapeCasts_S261632x1_S261632
  | 1 => (minimumf (shapeCast S261632 (extractStridedSlice S261632x1 ![0, 1] (res_main_v14 V) slices_S261632x5_S261632x1_0_1) shapeCasts_S261632x1_S261632)
      (shapeCast S261632 (extractStridedSlice S261632x1 ![0, 1] (res_main_v15 V) slices_S261632x5_S261632x1_0_1) shapeCasts_S261632x1_S261632) : FVec F S261632 .f32)
  | 2 => (minimumf (shapeCast S261632 (extractStridedSlice S261632x1 ![0, 2] (res_main_v14 V) slices_S261632x5_S261632x1_0_2) shapeCasts_S261632x1_S261632)
      (shapeCast S261632 (extractStridedSlice S261632x1 ![0, 2] (res_main_v15 V) slices_S261632x5_S261632x1_0_2) shapeCasts_S261632x1_S261632) : FVec F S261632 .f32)
  | 3 => (maximumf (shapeCast S261632 (extractStridedSlice S261632x1 ![0, 3] (res_main_v14 V) slices_S261632x5_S261632x1_0_3) shapeCasts_S261632x1_S261632)
      (shapeCast S261632 (extractStridedSlice S261632x1 ![0, 3] (res_main_v15 V) slices_S261632x5_S261632x1_0_3) shapeCasts_S261632x1_S261632) : FVec F S261632 .f32)
  | 4 => (maximumf (shapeCast S261632 (extractStridedSlice S261632x1 ![0, 4] (res_main_v14 V) slices_S261632x5_S261632x1_0_4) shapeCasts_S261632x1_S261632)
      (shapeCast S261632 (extractStridedSlice S261632x1 ![0, 4] (res_main_v15 V) slices_S261632x5_S261632x1_0_4) shapeCasts_S261632x1_S261632) : FVec F S261632 .f32)

/-- The same, as a column. -/
def aroundCol (j : Fin 5) : S261632x1.Idx → Elt F .f32 := broadcastInDim S261632x1 ![0] bcast_S261632_S261632x1_0 (around V j)

/-- The boxes around both. -/
def arounds : S261632x5.Idx → Elt F .f32 :=
  concatenate S261632x5 1 [⟨S261632x1, aroundCol V 0⟩, ⟨S261632x1, aroundCol V 1⟩, ⟨S261632x1, aroundCol V 2⟩, ⟨S261632x1, aroundCol V 3⟩, ⟨S261632x1, aroundCol V 4⟩]
    concatenates_S261632x1_S261632x1_S261632x1_S261632x1_S261632x1_S261632x5_d1

/-- A number of the box around a subject's box and an object's. -/
def outer (j : Fin 5) (s o : Elt F .f32) : Elt F .f32 :=
  match j with
  | 0 => s
  | 1 => FloatOps.minimumf (φ := .f32) s o
  | 2 => FloatOps.minimumf (φ := .f32) s o
  | 3 => FloatOps.maximumf (φ := .f32) s o
  | 4 => FloatOps.maximumf (φ := .f32) s o

theorem arounds_at (q : Fin 261632) (j : Fin 5) :
    arounds V (ix2 q j) = outer j ((res_main_v14 V : S261632x5.Idx → Elt F .f32) (ix2 q j)) ((res_main_v15 V : S261632x5.Idx → Elt F .f32) (ix2 q j)) := by
  unfold arounds
  rw [five_columns (aroundCol V) _ q j]
  refine (bcCol bcast_S261632_S261632x1_0 (around V j) q).trans ?_
  have hs := fun c hc h => column_at c hc (res_main_v14 V : S261632x5.Idx → Elt F .f32) h shapeCasts_S261632x1_S261632 q
  have ho := fun c hc h => column_at c hc (res_main_v15 V : S261632x5.Idx → Elt F .f32) h shapeCasts_S261632x1_S261632 q
  match j with
  | 0 => exact hs 0 (by omega) _
  | 1 => exact congrArg₂ (FloatOps.minimumf (φ := .f32)) (hs 1 (by omega) _) (ho 1 (by omega) _)
  | 2 => exact congrArg₂ (FloatOps.minimumf (φ := .f32)) (hs 2 (by omega) _) (ho 2 (by omega) _)
  | 3 => exact congrArg₂ (FloatOps.maximumf (φ := .f32)) (hs 3 (by omega) _) (ho 3 (by omega) _)
  | 4 => exact congrArg₂ (FloatOps.maximumf (φ := .f32)) (hs 4 (by omega) _) (ho 4 (by omega) _)

end Cert.Pairs

end
-- ==== Proof.Equal.lean ====
/- The program's results are the reference's: each, entry by entry, is the same entry of the same argument. -/
module

public import proofs.«01_k».proof.Proof.Values
public import proofs.«01_k».proof.Proof.Reference
public import Idealize.ShloMosaic.PureOps.Ideal

@[expose] public section

noncomputable section

namespace Cert.Pairs

open Idealize.ShloMosaic Idealize.ShloMosaic.Routing Idealize.ShloMosaic.ValueIdx
open Cert.ReferenceIdeal (S512 S512x5 S_ S261632 S261632x1 S261632x5)
open Cert.ReferenceIdeal.Gen Cert.ReferenceIdeal.Value

variable {F : FTy → Type} [FloatOps F]
variable (m : (ℓ : Loc Cert.KernelIdeal.nD Cert.KernelIdeal.τ Cert.KernelIdeal.sig) → Buf (Elt F) ℓ) (d : Dev Cert.KernelIdeal.nD)
variable (V : Valuation Cert.ReferenceIdeal.τ Cert.ReferenceIdeal.sig (Elt F))

/-! ## The reference's arguments -/

abbrev boxesOf : S512x5.Idx → Elt F .f32 := V (Proc.devRef .tc Cert.ReferenceIdeal.main_arg0)
abbrev labelsOf : S512.Idx → Elt F .i32 := V (Proc.devRef .tc Cert.ReferenceIdeal.main_arg1)
abbrev scoresOf : S512.Idx → Elt F .f32 := V (Proc.devRef .tc Cert.ReferenceIdeal.main_arg2)

theorem ext1 {α : Type} {f g : S261632.Idx → α} (h : ∀ q, f (ix1 q) = g (ix1 q)) : f = g := by
  funext i
  rw [eq_ix1 i]
  exact h (i 0)

theorem ext5 {α : Type} {f g : S261632x5.Idx → α} (h : ∀ q j, f (ix2 q j) = g (ix2 q j)) : f = g := by
  funext i
  rw [eq_ix2 i]
  exact h (i 0) (i 1)

/-! ## One by one -/

theorem label_at (n : ℕ) (hn : n < 512) (h : labelsOf V = m (d, ref Cert.KernelIdeal.main_arg1)) : labelsOf V (ix1 ⟨n, hn⟩) = labelAt m d n := by
  rw [h]
  exact label_eq m d (ix1 ⟨n, hn⟩)

theorem score_at (n : ℕ) (hn : n < 512) (h : scoresOf V = m (d, ref Cert.KernelIdeal.main_arg2)) : scoresOf V (ix1 ⟨n, hn⟩) = scoreAt m d n := by
  rw [h]
  exact score_eq m d (ix1 ⟨n, hn⟩)

theorem same_sind : (res_main_v12 V : S261632.Idx → BitVec 32) = (results m d).sind := ext1 fun q => row_at V q
theorem same_oind : (res_main_v13 V : S261632.Idx → BitVec 32) = (results m d).oind := ext1 fun q => col_at V q

theorem same_slab (h : labelsOf V = m (d, ref Cert.KernelIdeal.main_arg1)) (fill : S_.Idx → Elt F .i32) :
    lookup (res_main_call6_v5 V : S261632x1.Idx → BitVec 32) (labelsOf V) fill = (results m d).slab :=
  ext1 fun q => (lookup_at (row_column V) (labelsOf V) fill q).trans (label_at m d V _ _ h)
theorem same_olab (h : labelsOf V = m (d, ref Cert.KernelIdeal.main_arg1)) (fill : S_.Idx → Elt F .i32) :
    lookup (res_main_call7_v5 V : S261632x1.Idx → BitVec 32) (labelsOf V) fill = (results m d).olab :=
  ext1 fun q => (lookup_at (col_column V) (labelsOf V) fill q).trans (label_at m d V _ _ h)
theorem same_ssco (h : scoresOf V = m (d, ref Cert.KernelIdeal.main_arg2)) (fill : S_.Idx → Elt F .f32) :
    lookup (res_main_call8_v5 V : S261632x1.Idx → BitVec 32) (scoresOf V) fill = (results m d).ssco :=
  ext1 fun q => (lookup_at (row_column V) (scoresOf V) fill q).trans (score_at m d V _ _ h)
theorem same_osco (h : scoresOf V = m (d, ref Cert.KernelIdeal.main_arg2)) (fill : S_.Idx → Elt F .f32) :
    lookup (res_main_call9_v5 V : S261632x1.Idx → BitVec 32) (scoresOf V) fill = (results m d).osco :=
  ext1 fun q => (lookup_at (col_column V) (scoresOf V) fill q).trans (score_at m d V _ _ h)

theorem rsbj_box (h : boxesOf V = m (d, ref Cert.KernelIdeal.main_arg0)) (q : Fin 261632) (j : Fin 5) :
    (res_main_v14 V : S261632x5.Idx → Elt F .f32) (ix2 q j) = box m d (rowOf q.val) (rowOf_lt q.isLt) j := by
  rw [rsbj_at]
  exact congrFun h _
theorem robj_box (h : boxesOf V = m (d, ref Cert.KernelIdeal.main_arg0)) (q : Fin 261632) (j : Fin 5) :
    (res_main_v15 V : S261632x5.Idx → Elt F .f32) (ix2 q j) = box m d (colOf q.val) (colOf_lt _) j := by
  rw [robj_at]
  exact congrFun h _

theorem same_sbj (h : boxesOf V = m (d, ref Cert.KernelIdeal.main_arg0)) : (res_main_v14 V : S261632x5.Idx → Elt F .f32) = fives (F := F) (results m d).sbj :=
  ext5 fun q j => (rsbj_box m d V h q j).trans (sbj_at q j).symm
theorem same_obj (h : boxesOf V = m (d, ref Cert.KernelIdeal.main_arg0)) : (res_main_v15 V : S261632x5.Idx → Elt F .f32) = fives (F := F) (results m d).obj :=
  ext5 fun q j => (robj_box m d V h q j).trans (obj_at q j).symm

/-! ## The boxes around both, in exact numbers -/

/-- The least and the greatest of two do not depend on their order. -/
theorem outer_eq (j : Fin 5) (s o : Elt Ideal .f32) : outer (F := Ideal) j s o = relOf (F := Ideal) j.val s o := by
  match j with
  | 0 => rfl
  | 1 => exact min_comm s o
  | 2 => exact min_comm s o
  | 3 => exact max_comm s o
  | 4 => exact max_comm s o

theorem same_rel (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (h : boxesOf V = m (d, ref Cert.KernelIdeal.main_arg0)) :
    arounds V = fives (F := Ideal) (results m d).rel :=
  ext5 fun q j => by
    rw [arounds_at, rsbj_box m d V h, robj_box m d V h, outer_eq]
    exact (rel_at q j).symm

end Cert.Pairs

end
-- ==== Proof.lean ====
/- The proof of the claims: the program's run, its arguments unchanged, and its results the reference's. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Pairs

/-! ## The arguments unchanged -/

section Arguments

variable {F : FTy → Type} [FloatOps F]

theorem read_end {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (c : Dev Cert.KernelIdeal.nD)
    (b : Ref Cert.KernelIdeal.sig .tc) (hb : ¬ (ref b).isScoped) : r.2.mem (c, ref b) = atEnd m c (ref b) := h.1 c _ (mem_uc b hb)

theorem read_arg {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (c : Dev Cert.KernelIdeal.nD)
    (b : Ref Cert.KernelIdeal.sig .tc) (hb : b ∈ [Cert.KernelIdeal.main_arg0, Cert.KernelIdeal.main_arg1, Cert.KernelIdeal.main_arg2, Cert.KernelIdeal.main_arg3]) :
    r.2.mem (c, ref b) = m (c, ref b) := by
  have hs : ∀ b ∈ [Cert.KernelIdeal.main_arg0, Cert.KernelIdeal.main_arg1, Cert.KernelIdeal.main_arg2, Cert.KernelIdeal.main_arg3], ¬ (ref b).isScoped := by decide
  exact (read_end h c b (hs b hb)).trans (end_arg m c b hb)

end Arguments

theorem frame_kernel : Cert.quiescent_Kernel := fun m ρ _ =>
  (θ_run Cert.KernelIdeal.defs _ _).mono (fun _ h => ⟨fun c => ⟨read_arg h c _ (by decide), read_arg h c _ (by decide), read_arg h c _ (by decide), read_arg h c _ (by decide)⟩, h.2⟩)
    (run_main (F := Bits) m ρ)

theorem frame_ideal : Cert.quiescent_KernelIdeal := fun m ρ _ =>
  (θ_run Cert.KernelIdeal.defs _ _).mono (fun _ h => ⟨fun c => ⟨read_arg h c _ (by decide), read_arg h c _ (by decide), read_arg h c _ (by decide), read_arg h c _ (by decide)⟩, h.2⟩)
    (run_main (F := Ideal) m ρ)

theorem frame_reference : Cert.quiescent_ReferenceIdeal := fun m ρ _ =>
  (θ_run Cert.ReferenceIdeal.defs _ _).mono (fun r h => ⟨fun c => (h c).2.2.2.2.2.2.2.2.2.2.2, sem_eq_zero_of_no_sems (by decide) r.2⟩)
    (Cert.ReferenceIdeal.Value.run (F := Ideal) m ρ)

/-! ## The results equal -/

theorem equal : Cert.algebraic_KernelIdeal_ReferenceIdeal := fun m g m' g' _ hargs => by
  refine ⟨fun c => m (c, ref Cert.KernelIdeal.main_arg0), fun c => (results m c).sind, fun c => (results m c).oind,
    fun c => fives (F := Ideal) (results m c).sbj, fun c => fives (F := Ideal) (results m c).obj, fun c => fives (F := Ideal) (results m c).rel,
    fun c => (results m c).slab, fun c => (results m c).olab, fun c => (results m c).ssco, fun c => (results m c).osco, fun _ _ => 261632#32, ?_, ?_⟩
  · refine (θ_run Cert.KernelIdeal.defs _ _).mono (fun r h c => ?_) (run_main (F := Ideal) m g)
    refine ⟨read_arg h c _ (by decide), (read_end h c _ (by decide)).trans (end_sind m c), (read_end h c _ (by decide)).trans (end_oind m c),
      (read_end h c _ (by decide)).trans (end_sbj m c), (read_end h c _ (by decide)).trans (end_obj m c), (read_end h c _ (by decide)).trans (end_rel m c),
      (read_end h c _ (by decide)).trans (end_slab m c), (read_end h c _ (by decide)).trans (end_olab m c), (read_end h c _ (by decide)).trans (end_ssco m c),
      (read_end h c _ (by decide)).trans (end_osco m c), (read_end h c _ (by decide)).trans (end_n m c),
      read_arg h c _ (by decide), read_arg h c _ (by decide), read_arg h c _ (by decide), read_arg h c _ (by decide)⟩
  · refine (θ_run Cert.ReferenceIdeal.defs _ _).mono (fun r h c => ?_) (Cert.ReferenceIdeal.Value.run (F := Ideal) m' g')
    obtain ⟨h0, h1, h2, h3, h4, h5, h6, h7, h8, h9, h10, hm⟩ := h c
    obtain ⟨e0, e1, e2, -⟩ := hargs c
    exact ⟨h0.trans e0, h1.trans (same_sind m c _), h2.trans (same_oind m c _), h3.trans (same_sbj m c _ e0), h4.trans (same_obj m c _ e0),
      h5.trans (same_rel c m _ e0), h6.trans (same_slab m c _ e1 _), h7.trans (same_olab m c _ e1 _), h8.trans (same_ssco m c _ e2 _),
      h9.trans (same_osco m c _ e2 _), h10.trans rfl, hm⟩

theorem claim : Cert.Claim :=
  ⟨Cert.Kernel.Gen.facts, Cert.KernelIdeal.Gen.facts, Cert.ReferenceIdeal.Gen.facts, frame_kernel, frame_ideal, frame_reference, trivial, equal⟩

end Cert.Proof

end
